-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2, 4] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S2x1024x1024 : Shape := ⟨3, ![2, 1024, 1024]⟩
abbrev S8 : Shape := ⟨1, ![8]⟩
abbrev S_ : Shape := ⟨0, ![]⟩
abbrev S128x4096 : Shape := ⟨2, ![128, 4096]⟩
abbrev S128x1024 : Shape := ⟨2, ![128, 1024]⟩
abbrev S1x128x1024 : Shape := ⟨3, ![1, 128, 1024]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S1024x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S2x1024x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_21 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_20 : BitVec 32 := 8#32
  let v27 : BitVec 32 := Scalar.muli v9 c8_i32_20
  let v28 : BitVec 32 := Scalar.addi c0_i32_21 v27
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v29 : BitVec 32 := Scalar.muli v5 c4_i32_22
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v31 : BitVec 32 := Scalar.muli v8 c1_i32_23
  let v32 : BitVec 32 := Scalar.addi v30 v31
  v32.toNat
def k0_dev3 (d0 : Dev nD) : Nat :=
  let c0_i32_40 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_39 : BitVec 32 := 8#32
  let v49 : BitVec 32 := Scalar.muli v9 c8_i32_39
  let v50 : BitVec 32 := Scalar.addi c0_i32_40 v49
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v51 : BitVec 32 := Scalar.muli v5 c4_i32_41
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v53 : BitVec 32 := Scalar.muli v8 c1_i32_42
  let v54 : BitVec 32 := Scalar.addi v52 v53
  v54.toNat
def k0_dev4 (d0 : Dev nD) : Nat :=
  let c0_i32_58 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_57 : BitVec 32 := 8#32
  let v71 : BitVec 32 := Scalar.muli v9 c8_i32_57
  let v72 : BitVec 32 := Scalar.addi c0_i32_58 v71
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_59 : BitVec 32 := 4#32
  let v73 : BitVec 32 := Scalar.muli v5 c4_i32_59
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v75 : BitVec 32 := Scalar.muli v8 c1_i32_60
  let v76 : BitVec 32 := Scalar.addi v74 v75
  v76.toNat
def k0_dev5 (d0 : Dev nD) : Nat :=
  let c0_i32_75 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_74 : BitVec 32 := 8#32
  let v93 : BitVec 32 := Scalar.muli v9 c8_i32_74
  let v94 : BitVec 32 := Scalar.addi c0_i32_75 v93
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v95 : BitVec 32 := Scalar.muli v5 c4_i32_76
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v97 : BitVec 32 := Scalar.muli v8 c1_i32_77
  let v98 : BitVec 32 := Scalar.addi v96 v97
  v98.toNat
def k0_dev6 (d0 : Dev nD) : Nat :=
  let c0_i32_93 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_92 : BitVec 32 := 8#32
  let v115 : BitVec 32 := Scalar.muli v9 c8_i32_92
  let v116 : BitVec 32 := Scalar.addi c0_i32_93 v115
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_94 : BitVec 32 := 4#32
  let v117 : BitVec 32 := Scalar.muli v5 c4_i32_94
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v119 : BitVec 32 := Scalar.muli v8 c1_i32_95
  let v120 : BitVec 32 := Scalar.addi v118 v119
  v120.toNat
def k0_dev7 (d0 : Dev nD) : Nat :=
  let c0_i32_110 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_109 : BitVec 32 := 8#32
  let v137 : BitVec 32 := Scalar.muli v9 c8_i32_109
  let v138 : BitVec 32 := Scalar.addi c0_i32_110 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let v139 : BitVec 32 := Scalar.muli v5 c4_i32_111
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v141 : BitVec 32 := Scalar.muli v8 c1_i32_112
  let v142 : BitVec 32 := Scalar.addi v140 v141
  v142.toNat
def k0_dev8 (d0 : Dev nD) : Nat :=
  let c0_i32_127 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_126 : BitVec 32 := 8#32
  let v159 : BitVec 32 := Scalar.muli v9 c8_i32_126
  let v160 : BitVec 32 := Scalar.addi c0_i32_127 v159
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v161 : BitVec 32 := Scalar.muli v5 c4_i32_128
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v163 : BitVec 32 := Scalar.muli v8 c1_i32_129
  let v164 : BitVec 32 := Scalar.addi v162 v163
  v164.toNat
def k0_dev9 (d0 : Dev nD) : Nat :=
  let c0_i32_144 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_143 : BitVec 32 := 8#32
  let v181 : BitVec 32 := Scalar.muli v9 c8_i32_143
  let v182 : BitVec 32 := Scalar.addi c0_i32_144 v181
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_145 : BitVec 32 := 4#32
  let v183 : BitVec 32 := Scalar.muli v5 c4_i32_145
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v185 : BitVec 32 := Scalar.muli v8 c1_i32_146
  let v186 : BitVec 32 := Scalar.addi v184 v185
  v186.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S1024x8192, .bf16⟩
  | .hbm, ⟨2, _⟩ => ⟨S8192x1024, .bf16⟩
  | .hbm, ⟨3, _⟩ => ⟨S1024x1024, .f32⟩
  | .hbm, ⟨4, _⟩ => ⟨S1024x1024, .bf16⟩
  | .hbm, ⟨5, _⟩ => ⟨S1024x1024, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Proof.Program.lean ====
/-
# The kernel as a loop over eight chunks

The kernel of one device multiplies its half of the columns of `dy` by its half of the columns of `W`, eight blocks
of 128 rows in turn; each block is stored into the result, its narrowed copy into the first half of the scratch
buffer, and from there copied into the second half of the partner's. Then, block by block again, what the partner
sent is added to the result. Here the printed sequence of operations is rewritten as two passes over the block
number `k`, so that each pass is proved once, for every `k`.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.ChunkedReduce

open Cert.KernelIdeal Cert.KernelIdeal.Gen
open Idealize.ShloMosaic Idealize.ShloMosaic.TcCoe
open Idealize.SL Idealize.SL.Sem

variable {F : FTy → Type} [FloatOps F]

/-! ## Buffers, rectangles, semaphores -/

/-- The staging buffers of `dy`, `W` and the result, and the two-slab scratch buffer. -/
abbrev xM : Memref sig .tc .vmem S1024x4096 .bf16 := Memref.whole cc0_stg0_0
/-- The staging buffer of `W`; -/
abbrev wM : Memref sig .tc .vmem S1024x4096 .bf16 := Memref.whole cc0_stg1_0
/-- of the result; -/
abbrev oM : Memref sig .tc .vmem S1024x1024 .f32 := Memref.whole cc0_stg2_0
/-- the scratch buffer. -/
abbrev cM : Memref sig .tc .vmem S2x1024x1024 .bf16 := Memref.whole cc0_scratch0

/-- A block of 128 rows ends within the 1024, -/
theorem chunk_le (k : Fin 8) : 128 * k.val + 128 ≤ 1024 := by have := k.isLt; omega

/-- so it lies within `dy`'s buffer, -/
theorem xR_inb (k : Fin 8) : ∀ a, (![128 * k.val, 0] : Fin 2 → Nat) a + S128x4096.size a ≤ S1024x4096.size a :=
  Fin.forall_fin_two.mpr ⟨chunk_le k, (by decide : (0 + 4096 ≤ 4096))⟩
/-- within the result's, -/
theorem oR_inb (k : Fin 8) : ∀ a, (![128 * k.val, 0] : Fin 2 → Nat) a + S128x1024.size a ≤ S1024x1024.size a :=
  Fin.forall_fin_two.mpr ⟨chunk_le k, (by decide : (0 + 1024 ≤ 1024))⟩
/-- within the scratch buffer; -/
theorem cR_inb (s : Fin 2) (k : Fin 8) :
    ∀ a, (![s.val, 128 * k.val, 0] : Fin 3 → Nat) a + S1x128x1024.size a ≤ S2x1024x1024.size a := by
  intro a
  fin_cases a
  · exact (by have := s.isLt; omega : s.val + 1 ≤ 2)
  · exact chunk_le k
  · exact (by decide : 0 + 1024 ≤ 1024)
/-- and semaphore `k` is one of eight. -/
theorem sR_inb (k : Fin 8) : ∀ a, (![k.val] : Fin 1 → Nat) a + S1.size a ≤ S8.size a :=
  Fin.forall_fin_one.mpr (by have := k.isLt; exact (by omega : k.val + 1 ≤ 8))

/-- Rows `128 k …` of `dy`'s and the result's buffer, and of slab `s` of the scratch buffer. -/
abbrev xR (k : Fin 8) : Rect S1024x4096 := Rect.unit (s := S1024x4096) ![128 * k.val, 0] S128x4096.size (xR_inb k)
/-- Rows `128 k …` of the result's buffer. -/
abbrev oR (k : Fin 8) : Rect S1024x1024 := Rect.unit (s := S1024x1024) ![128 * k.val, 0] S128x1024.size (oR_inb k)
/-- Rows `128 k …` of slab `s` of the scratch buffer. -/
abbrev cR (s : Fin 2) (k : Fin 8) : Rect S2x1024x1024 :=
  Rect.unit (s := S2x1024x1024) ![s.val, 128 * k.val, 0] S1x128x1024.size (cR_inb s k)
/-- All of `W`'s buffer. -/
abbrev wR : Rect S1024x4096 := Rect.unit (s := S1024x4096) ![0, 0] S1024x4096.size inb_S1024x4096_S1024x4096_0_0

/-- A block of the scratch buffer takes up whole packed rows, -/
theorem cR_packed (k : Fin 8) : (cR 0 k).PackedRows (EltTy.packing .bf16) := by revert k; decide
/-- and whole words, -/
theorem cR_words (s : Fin 2) (k : Fin 8) : (cR s k).WholeWords (EltTy.packing .bf16) := by revert s k; decide

/-- Block `k` of slab `s` as a 128 × 1024 buffer of its own, which the copies are between. -/
abbrev slab (s : Fin 2) (k : Fin 8) : Memref sig .tc .vmem S128x1024 .bf16 :=
  (cM.slice (cR s k) (fun _ => rfl)).squeeze S128x1024 squeezes_S1x128x1024_S128x1024

/-- which a copy asks of both its ends. -/
theorem slab_exact (s : Fin 2) (k : Fin 8) : (slab s k).view.WordExact :=
  ((Memref.isWhole_whole cc0_scratch0).wordExact_slice rfl _ (cR_words s k)).reshape _ _

/-- Semaphore `k` of an array of eight. -/
abbrev semAt (a : DmaSems sig S8) (k : Fin 8) : DmaSem sig :=
  ((a.slice (Rect.unit (s := S8) ![k.val] S1.size (sR_inb k))).squeeze S_ squeezes_S1_S_).sem
/-- The semaphore that says copy `k` has left. -/
abbrev sendS (k : Fin 8) : DmaSem sig := semAt cc0_scratch1 k
/-- The semaphore that says copy `k` has arrived. -/
abbrev recvS (k : Fin 8) : DmaSem sig := semAt cc0_scratch2 k
/-- The runtime's barrier semaphore. -/
abbrev barS : Sem sig := (SemArray.scalar (sig.barrier 0 rfl) : Sems sig S_).sem

/-- The device the copies name. -/
abbrev tgt (d0 : Dev nD) : Dev nD := ⟨k0_dev2 d0, k0_dev2_lt d0⟩

/-! ## What the kernel computes -/

/-- A block of rows of `dy` times `W` transposed; -/
abbrev prod (w : FVec F S1024x4096 .bf16) (x : Vec F S128x4096 .bf16) : FVec F S128x1024 .f32 := k0_pay4 w x
/-- the same narrowed, as it is stored into the scratch buffer; -/
abbrev narrow (w : FVec F S1024x4096 .bf16) (x : Vec F S128x4096 .bf16) : FVec F S1x128x1024 .bf16 := k0_pay5 w x
/-- and the sum of a block of the result and what the partner sent. -/
abbrev total (o : Vec F S128x1024 .f32) (r : Vec F S1x128x1024 .bf16) : FVec F S128x1024 .f32 := k0_pay20 o r

/-! ## The two passes -/

/-- The first pass at block `k`: multiply, store, send. -/
def pass1 (d0 : Dev nD) (w : FVec F S1024x4096 .bf16) (k : Fin 8) : Prog (TpuEff nD τ sig (Elt F) Λ₀ .tc) PUnit := do
  let x : Vec F S128x4096 .bf16 ← Prog.lift (.load xM (xR k).toLoadRect (View.loadsAt_vmem h_S128x4096))
  let _ : Vec F S1x128x1024 .bf16 ← Prog.lift (.load cM (cR 0 k).toLoadRect (View.loadsAt_vmem h_S1x128x1024))
  Prog.lift (.store cM (cR 0 k) (narrow w x) Finset.univ
    (View.stores_vmem h_S1x128x1024 ((Memref.isWhole_whole cc0_scratch0).storeExact_slice rfl _ (cR_packed k)) (fun _ => rfl)) (.inl rfl))
  let _ : Vec F S128x1024 .f32 ← Prog.lift (.load oM (oR k).toLoadRect (View.loadsAt_vmem h_S128x1024))
  Prog.lift (.store oM (oR k) (prod w x) Finset.univ (View.stores_vmem_bits_univ h_S128x1024 rfl) (.inl rfl))
  Prog.lift (.enqueueDma (slab 0 k) (.remote (Dev.tc (tgt d0)) (slab 1 k) (.dma (sendS k))) (.dma (recvS k))
    (slab_exact 0 k) (slab_exact 1 k) ⟨⟨rfl, Or.inl rfl⟩, trivial⟩)

/-- The second pass at block `k`: await what the partner sent, add it, await that the own copy has left. -/
def pass2 (k : Fin 8) : Prog (TpuEff nD τ sig (Elt F) Λ₀ .tc) PUnit := do
  Prog.lift (.waitDma2 (recvS k) (slab 0 k) (slab 1 k) (slab_exact 0 k) (slab_exact 1 k))
  let o : Vec F S128x1024 .f32 ← Prog.lift (.load oM (oR k).toLoadRect (View.loadsAt_vmem h_S128x1024))
  let r : Vec F S1x128x1024 .bf16 ← Prog.lift (.load cM (cR 1 k).toLoadRect (View.loadsAt_vmem h_S1x128x1024))
  let _ : Vec F S128x1024 .f32 ← Prog.lift (.load oM (oR k).toLoadRect (View.loadsAt_vmem h_S128x1024))
  Prog.lift (.store oM (oR k) (total o r) Finset.univ (View.stores_vmem_bits_univ h_S128x1024 rfl) (.inl rfl))
  Prog.lift (.waitDma2 (sendS k) (slab 1 k) (slab 0 k) (slab_exact 1 k) (slab_exact 0 k))

/-- A pass over all eight blocks, in order. -/
def eight (p : Fin 8 → Prog (TpuEff nD τ sig (Elt F) Λ₀ .tc) PUnit) : Prog (TpuEff nD τ sig (Elt F) Λ₀ .tc) PUnit := do
  p 0; p 1; p 2; p 3; p 4; p 5; p 6; p 7

/-- The kernel: the handshake with the partner, `W` read, then the two passes. -/
def looped : Prog (TpuEff nD τ sig (Elt F) Λ₀ .tc) PUnit := do
  let d0 : Dev nD ← Prog.lift .deviceId
  semSignalWord (⟨k0_dev1 d0, k0_dev1_lt d0⟩ : Dev nD) barS 1#32
  semWaitWord barS 1#32
  let w : Vec F S1024x4096 .bf16 ← Prog.lift (.load wM wR.toLoadRect (View.loadsAt_vmem h_S1024x4096))
  eight (pass1 d0 (k0_pay1 w))
  eight pass2

set_option maxRecDepth 65536 in
/-- The printed kernel is the looped one. -/
theorem body_eq_looped :
    cc0_body (F := F) xM (Memref.isWhole_whole _) wM (Memref.isWhole_whole _) oM (Memref.isWhole_whole _)
      cM (Memref.isWhole_whole _) cc0_scratch1 cc0_scratch2 = looped (F := F) := by
  rfl

end Cert.ChunkedReduce

end
-- ==== Proof.Proof.Contents.lean ====
/-
# What the buffers hold

The contents that occur in the run: the operands' blocks, the products, what is sent and what is added. The result's
buffer is described by its eight blocks of rows (`blk`): what a store to one block does to each, and that the eight
of them determine the whole.
-/
module

public import proofs.«01_k».proof.Proof.Proof.Program
public import Idealize.ShloMosaic.Lib.Pipeline.Launch
public import Idealize.ShloMosaic.Lib.Pipeline.Kit

@[expose] public section

noncomputable section

namespace Cert.ChunkedReduce

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-! ## The partner -/

set_option backward.proofsInPublic true in
/-- The device with the other coordinate along the mesh's first axis. -/
def peer (c : Dev nD) : Dev nD := ⟨(c.val + 8) % 16, Nat.mod_lt _ (by decide)⟩

/-- The partner's partner is the device itself. -/
theorem peer_peer (c : Dev nD) : peer (peer c) = c := by revert c; decide
/-- Exchanging every device with its partner. -/
def swap : Dev nD ≃ Dev nD := ⟨peer, peer, peer_peer, peer_peer⟩

/-- The device signalled is the partner; -/
theorem signal_peer (c : Dev nD) : (⟨k0_dev1 c, k0_dev1_lt c⟩ : Dev nD) = peer c :=
  Fin.ext ((k0_dev1_eq c).trans (by revert c; decide))
/-- so is the device that the copies go to. -/
theorem tgt_peer (c : Dev nD) : tgt c = peer c := Fin.ext ((k0_dev2_eq c).trans (by revert c; decide))

/-! ## The values computed -/

/-- What is staged of `dy` and `W` on device `c`. -/
def xstg (c : Dev nD) : (cc0_stg0_0 : Ref sig .tc).ty.Contents (Elt F) :=
  (win0_0.blk (0 : Fin 1)).view.read (Elt F) (m ((c : Thread nD τ).loc main_arg0))
/-- What is staged of `W` on device `c`. -/
def wstg (c : Dev nD) : (cc0_stg1_0 : Ref sig .tc).ty.Contents (Elt F) :=
  (win0_1.blk (0 : Fin 1)).view.read (Elt F) (m ((c : Thread nD τ).loc main_arg1))

/-- `W` as the kernel holds it, and block `k` of `dy`'s rows. -/
def wAt (c : Dev nD) : FVec F S1024x4096 .bf16 := k0_pay1 (wM.view.readAt (Elt F) wR.toLoadRect (wstg m c))
/-- Block `k` of `dy`'s rows on device `c`. -/
def xAt (c : Dev nD) (k : Fin 8) : Vec F S128x4096 .bf16 := xM.view.readAt (Elt F) (xR k).toLoadRect (xstg m c)
/-- The product of device `c` at block `k`, what it sends of it, and the block of the result it ends with. -/
def prodAt (c : Dev nD) (k : Fin 8) : Vec F S128x1024 .f32 := prod (wAt m c) (xAt m c k)
/-- What device `c` sends of block `k`. -/
def sentAt (c : Dev nD) (k : Fin 8) : Vec F S1x128x1024 .bf16 := narrow (wAt m c) (xAt m c k)
/-- Block `k` of the result that device `c` ends with. -/
def finalAt (c : Dev nD) (k : Fin 8) : Vec F S128x1024 .f32 := total (prodAt m c k) (sentAt m (peer c) k)

/-! ## The result's buffer, by blocks of rows -/

/-- Contents of the result's buffer; block `k` of them. -/
abbrev OutBuf (F : FTy → Type) : Type := (cc0_stg2_0 : Ref sig .tc).ty.Contents (Elt F)
/-- Block `k` of contents of the result's buffer. -/
def blk (k : Fin 8) (f : OutBuf F) : Vec F S128x1024 .f32 := oM.view.readAt (Elt F) (oR k).toLoadRect f

/-- A block just stored reads as what was stored, -/
theorem blk_same (k : Fin 8) (f : OutBuf F) (v : Vec F S128x1024 .f32) :
    blk k ((oM.access (oR k)).write (Elt F) f v Finset.univ) = v :=
  View.read_write_univ (v := oM.access (oR k)) f v

/-- Different blocks share no element. -/
theorem oR_apart {j k : Fin 8} (h : j ≠ k) : Disjoint (oR j).set (oR k).set := by
  refine Rect.unit_disjoint (0 : Fin 2) ?_
  show 128 * j.val + 128 ≤ 128 * k.val ∨ 128 * k.val + 128 ≤ 128 * j.val
  have := Fin.val_ne_of_ne h
  omega

/-- and a store to one block leaves the others. -/
theorem blk_other {j k : Fin 8} (h : j ≠ k) (f : OutBuf F) (v : Vec F S128x1024 .f32) :
    blk j ((oM.access (oR k)).write (Elt F) f v Finset.univ) = blk j f := by
  unfold blk
  rw [View.readAt_rect, View.readAt_rect]
  refine View.read_slice_write_slice_of_disjoint (v := oM.view) (oR j) (oR k) f v Finset.univ ?_
  show Disjoint ((View.whole cc0_stg2_0).slice (oR j)).set ((View.whole cc0_stg2_0).slice (oR k)).set
  rw [View.set_slice_whole, View.set_slice_whole]
  exact oR_apart h

/-- The block a row lies in and its place there. -/
def rowBlk (i : S1024x1024.Idx) : Fin 8 := ⟨(i 0).val / 128, by have : (i 0).val < 1024 := (i 0).isLt; omega⟩
/-- The place of a row in its block. -/
def rowIn (i : S1024x1024.Idx) : S128x1024.Idx := fun a => match a with
  | ⟨0, _⟩ => ⟨(i 0).val % 128, Nat.mod_lt _ (by decide)⟩
  | ⟨1, _⟩ => i 1

/-- Block and place name the row. -/
theorem emb_rowIn (i : S1024x1024.Idx) : (oR (rowBlk i)).emb (rowIn i) = i := by
  funext a
  refine Fin.ext ?_
  match a with
  | ⟨0, _⟩ =>
    show 128 * ((i 0).val / 128) + 1 * ((i 0).val % 128) = (i 0).val
    omega
  | ⟨1, _⟩ =>
    show 0 + 1 * (i 1).val = (i 1).val
    omega

/-- The contents with the blocks `V`. -/
def glue (V : Fin 8 → Vec F S128x1024 .f32) : OutBuf F := fun i => V (rowBlk i) (rowIn i)

/-- Contents are known by their eight blocks. -/
theorem eq_glue (f : OutBuf F) (V : Fin 8 → Vec F S128x1024 .f32) (h : ∀ k, blk k f = V k) : f = glue V := by
  funext i
  unfold glue
  rw [← h]
  show f i = f ((oR (rowBlk i)).emb (rowIn i))
  rw [emb_rowIn]

/-- The result of device `c`. -/
def outAt (c : Dev nD) : OutBuf F := glue (finalAt m c)

/-- The first `n` blocks are `V`'s; -/
def Upto (V : Fin 8 → Vec F S128x1024 .f32) (n : ℕ) (f : OutBuf F) : Prop := ∀ j : Fin 8, j.val < n → blk j f = V j
/-- those from `n` on are. -/
def From (V : Fin 8 → Vec F S128x1024 .f32) (n : ℕ) (f : OutBuf F) : Prop := ∀ j : Fin 8, n ≤ j.val → blk j f = V j

/-- Storing block `k` of `V` where the blocks below are `V`'s already; -/
theorem Upto.store {V : Fin 8 → Vec F S128x1024 .f32} {k : Fin 8} {f : OutBuf F} (h : Upto V k.val f) :
    Upto V (k.val + 1) ((oM.access (oR k)).write (Elt F) f (V k) Finset.univ) := fun j hj => by
  by_cases hjk : j = k
  · subst hjk; exact blk_same _ _ _
  · rw [blk_other hjk]; exact h j (by have := Fin.val_ne_of_ne hjk; omega)
/-- it leaves the blocks above as they were. -/
theorem From.store {V : Fin 8 → Vec F S128x1024 .f32} {k : Fin 8} {f : OutBuf F} (h : From V k.val f) (v : Vec F S128x1024 .f32) :
    From V (k.val + 1) ((oM.access (oR k)).write (Elt F) f v Finset.univ) := fun j hj => by
  rw [blk_other (fun e => by subst e; omega)]; exact h j (by omega)

/-! ## The scratch buffer, by slabs and blocks -/

/-- Contents of the scratch buffer. -/
abbrev Scr (F : FTy → Type) : Type := (cc0_scratch0 : Ref sig .tc).ty.Contents (Elt F)

/-- The elements of a block seen as a matrix are those of the block. -/
theorem slab_set (s : Fin 2) (k : Fin 8) : (slab s k).view.set = (cR s k).set := by
  show ((cM.view.slice (cR s k)).reshape S128x1024 _).set = _
  rw [View.set_reshape]
  exact View.set_slice_whole cc0_scratch0 (cR s k)

/-- The sixteen blocks of the two slabs share no element, -/
theorem cR_apart {p q : Fin 2 × Fin 8} (h : p ≠ q) : Disjoint (cR p.1 p.2).set (cR q.1 q.2).set := by
  by_cases h1 : p.1 = q.1
  · refine Rect.unit_disjoint (1 : Fin 3) ?_
    show 128 * p.2.val + 128 ≤ 128 * q.2.val ∨ 128 * q.2.val + 128 ≤ 128 * p.2.val
    have : p.2.val ≠ q.2.val := fun e => h (Prod.ext h1 (Fin.ext e))
    omega
  · refine Rect.unit_disjoint (0 : Fin 3) ?_
    show p.1.val + 1 ≤ q.1.val ∨ q.1.val + 1 ≤ p.1.val
    have := Fin.val_ne_of_ne h1
    omega

/-- and make up the buffer. -/
theorem cR_cover : (Finset.univ : Finset (Fin 2 × Fin 8)).biUnion (fun p => (cR p.1 p.2).set) = Finset.univ := by
  refine Finset.eq_univ_iff_forall.mpr fun (i : S2x1024x1024.Idx) => ?_
  have h0 : (i 0).val < 2 := (i 0).isLt
  have h1 : (i 1).val < 1024 := (i 1).isLt
  have h2 : (i 2).val < 1024 := (i 2).isLt
  refine Finset.mem_biUnion.mpr ⟨(⟨(i 0).val, h0⟩, ⟨(i 1).val / 128, by omega⟩), Finset.mem_univ _, ?_⟩
  refine Rect.mem_set_unit.mpr fun a => ?_
  match a with
  | ⟨0, _⟩ =>
    show (i 0).val ≤ (i 0).val ∧ (i 0).val < (i 0).val + 1
    omega
  | ⟨1, _⟩ =>
    show 128 * ((i 1).val / 128) ≤ (i 1).val ∧ (i 1).val < 128 * ((i 1).val / 128) + 128
    omega
  | ⟨2, _⟩ =>
    show 0 ≤ (i 2).val ∧ (i 2).val < 0 + 1024
    omega

/-- As a matrix a block has as many elements. -/
theorem slab_numel : S128x1024.numel = S1x128x1024.numel := by decide

/-- Reading block `k` of slab `s` as a matrix is reading it in place, the positions renamed. -/
theorem slab_read (s : Fin 2) (k : Fin 8) (f : Scr F) (y : S128x1024.Idx) :
    (slab s k).view.read (Elt F) f y = (cM.access (cR s k)).read (Elt F) f (Shape.reshapeEquiv slab_numel y) := rfl

/-- What a block of the second slab reads once the copy of the same block of the partner's first slab has landed
    there, that block having been stored before. -/
theorem landed_reads (k : Fin 8) (fd fs : Scr F) (v : Vec F S1x128x1024 .bf16) :
    cM.view.readAt (Elt F) (cR 1 k).toLoadRect
      ((slab 1 k).view.write (Elt F) fd ((slab 0 k).view.read (Elt F) ((cM.access (cR 0 k)).write (Elt F) fs v Finset.univ)) Finset.univ) = v := by
  rw [View.readAt_rect]
  funext j
  obtain ⟨y, rfl⟩ := (Shape.reshapeEquiv slab_numel).surjective j
  refine (slab_read 1 k _ y).symm.trans ?_
  rw [View.read_write_univ, slab_read]
  exact congrFun (View.read_write_univ (v := cM.access (cR 0 k)) fs v) _

end Cert.ChunkedReduce

end
-- ==== Proof.Proof.Protocol.lean ====
/-
# The exchange between partners

Seventeen semaphores a device: the runtime's barrier, and for each block one that its own copy has left (`send`) and
one that the partner's copy has arrived (`recv`). Each is raised once, by its round 0, and what that raise hands over
is its payload: the barrier the partner's eight landing blocks, a send semaphore the block sent from, a receive
semaphore the block landed in, reading what the partner sent.
-/
module

public import proofs.«01_k».proof.Proof.Proof.Contents

@[expose] public section

noncomputable section

namespace Cert.ChunkedReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The state kept beside memory: the pipeline's and that of the kernel's own semaphores; -/
abbrev UU : Type := UR sig nD τ × URounds (GSem nD τ sig) Unit

local notation "𝕄" => MT nD τ sig Unit (Elt F) ℕ UU ℕ

/-- the first of these, -/
abbrev EP : Emb (UR sig nD τ) (MT nD τ sig Unit (Elt F) ℕ UU ℕ) := embL
/-- and the second. -/
abbrev ER : Emb (URounds (GSem nD τ sig) Unit) (MT nD τ sig Unit (Elt F) ℕ UU ℕ) := embR

variable (m : (ℓ : Loc nD τ sig) → Buf (Elt F) ℓ)

/-! ## The semaphores -/

/-- The semaphores of a device other than the barrier: `inl k` that copy `k` has left, `inr k` that it has arrived; -/
abbrev Own : Type := Fin 8 ⊕ Fin 8
/-- all of them, `inl ()` the barrier. -/
abbrev Ix : Type := Unit ⊕ Own

/-- The semaphore of each kind. -/
abbrev semOf : Ix → SemLoc sig
  | .inl _ => .reg barS
  | .inr (.inl k) => .dma (sendS k)
  | .inr (.inr k) => .dma (recvS k)

/-- The sends' semaphores are numbers 3 to 10, -/
theorem sendS_val (k : Fin 8) : (sendS k).val = 3 + k.val := by revert k; decide
/-- the arrivals' are numbers 11 to 18, -/
theorem recvS_val (k : Fin 8) : (recvS k).val = 11 + k.val := by revert k; decide

/-- so that all seventeen are different. -/
theorem semOf_injective : Function.Injective semOf := by
  rintro (_ | k | k) (_ | k' | k') h
  · rfl
  · cases h
  · cases h
  · cases h
  · have h' := congrArg Fin.val (SemLoc.dma.inj h)
    rw [sendS_val, sendS_val] at h'
    rw [Fin.ext (by omega : k.val = k'.val)]
  · have h' := congrArg Fin.val (SemLoc.dma.inj h)
    have := k.isLt
    rw [sendS_val, recvS_val] at h'
    omega
  · cases h
  · have h' := congrArg Fin.val (SemLoc.dma.inj h)
    have := k'.isLt
    rw [sendS_val, recvS_val] at h'
    omega
  · have h' := congrArg Fin.val (SemLoc.dma.inj h)
    rw [recvS_val, recvS_val] at h'
    rw [Fin.ext (by omega : k.val = k'.val)]

/-- Which of the seventeen a semaphore is, if any. -/
def role (sm : SemLoc sig) : Option Ix := Function.partialInv semOf sm
/-- A semaphore's role is what it was named for, -/
theorem role_semOf (j : Ix) : role (semOf j) = some j := Function.partialInv_left semOf_injective j
/-- and the role determines it. -/
theorem semOf_of_role {sm : SemLoc sig} {j : Ix} (h : role sm = some j) : semOf j = sm :=
  (Function.partialInv_of_injective semOf_injective j sm).mp h

/-- A semaphore on device `c`; -/
abbrev cellAt (c : Dev nD) (j : Ix) : GSem nD τ sig := ((c : Thread nD τ), semOf j)
/-- its barrier, -/
abbrev barCell (c : Dev nD) : GSem nD τ sig := ((c : Thread nD τ), .reg barS)
/-- the one for send `k`, -/
abbrev sendCell (c : Dev nD) (k : Fin 8) : GSem nD τ sig := ((c : Thread nD τ), .dma (sendS k))
/-- the one for arrival `k`. -/
abbrev recvCell (c : Dev nD) (k : Fin 8) : GSem nD τ sig := ((c : Thread nD τ), .dma (recvS k))

/-- Device and kind determine the semaphore. -/
theorem cellAt_inj {c d : Dev nD} {i j : Ix} (h : cellAt c i = cellAt d j) : c = d ∧ i = j :=
  ⟨Fin.ext (congrArg (fun g : GSem nD τ sig => g.1.1.val) h), semOf_injective (congrArg Prod.snd h)⟩

/-- The units one copy of a block counts. -/
abbrev N : ℕ := (slab 1 0).view.dmaCredit
/-- A copy counts for something, -/
theorem N_pos : 0 < N := View.dmaCredit_pos _ (by decide)
/-- The units a semaphore is raised by. -/
def units : Ix → ℕ
  | .inl _ => 1
  | .inr _ => N
/-- and so does every raise. -/
theorem units_pos : ∀ j : Ix, 0 < units j
  | .inl _ => Nat.one_pos
  | .inr _ => N_pos

/-! ## What is handed over -/

/-- Block `k` of slab `s` of device `c`'s scratch buffer, held at contents `f`; -/
def slabPts (c : Dev nD) (s : Fin 2) (k : Fin 8) (f : Scr F) : sProp 𝕄 :=
  (slab s k).view.loc (c : Thread nD τ) ↦[(slab s k).view.set]{fullShare} f
omit [FloatOps F] in
/-- as elements of the buffer; -/
theorem slabPts_eq (c : Dev nD) (s : Fin 2) (k : Fin 8) (f : Scr F) :
    (slabPts c s k f : sProp 𝕄) = (((c : Thread nD τ).loc cc0_scratch0) ↦[(cR s k).set]{fullShare} f) := by
  unfold slabPts; rw [slab_set]
/-- at some contents. -/
def slabAny (c : Dev nD) (s : Fin 2) (k : Fin 8) : sProp 𝕄 := iprop(∃ f, slabPts c s k f)
/-- Block `k` of the second slab, reading what the partner sends. -/
def slabGot (c : Dev nD) (k : Fin 8) : sProp 𝕄 :=
  iprop(∃ f : Scr F, ⌜cM.view.readAt (Elt F) (cR 1 k).toLoadRect f = sentAt m (peer c) k⌝ ∗ slabPts c 1 k f)

omit [FloatOps F] in
/-- Blocks of the scratch buffer can be kept in an invariant: -/
instance slabPts_storable (c : Dev nD) (s : Fin 2) (k : Fin 8) (f : Scr F) :
    BI.Storable (upEmb : UEmb _ 𝕄) (slabPts c s k f) := by unfold slabPts; infer_instance
omit [FloatOps F] in
/-- with any contents, -/
instance slabAny_storable (c : Dev nD) (s : Fin 2) (k : Fin 8) :
    BI.Storable (upEmb : UEmb _ 𝕄) (slabAny (F := F) c s k) := by unfold slabAny; infer_instance
/-- or holding what was sent. -/
instance slabGot_storable (c : Dev nD) (k : Fin 8) :
    BI.Storable (upEmb : UEmb _ 𝕄) (slabGot m c k) := by unfold slabGot; infer_instance

/-- The payload of each of device `c`'s semaphores. -/
def handed (c : Dev nD) : Ix → sProp 𝕄
  | .inl _ => bigSep Finset.univ fun k : Fin 8 => slabAny (peer c) 1 k
  | .inr (.inl k) => slabAny c 0 k
  | .inr (.inr k) => slabGot m c k

/-- What passes by a semaphore can be kept in an invariant, -/
instance handed_storable (c : Dev nD) (j : Ix) : BI.Storable (upEmb : UEmb _ 𝕄) (handed m c j) := by
  rcases j with _ | k | k <;> (unfold handed; infer_instance)

/-- One round, of one contribution, at each of the seventeen. -/
def plan : Rounds.Schedule (GSem nD τ sig) Unit 𝕄 where
  duties g r := if r = 0 ∧ g.1.2 = .tc ∧ (role g.2).isSome then {()} else ∅
  unitless _ := False
  amount g _ _ := ((role g.2).map units).getD 1
  payload g _ _ := ((role g.2).map (handed m g.1.1)).getD iprop(emp)
  amount_pos g _ _ _ := by
    cases h : role g.2 with
    | none => exact Nat.one_pos
    | some j => exact units_pos j

/-- in every round of the plan. -/
instance plan_storable (g : GSem nD τ sig) (r : ℕ) (d : Unit) :
    BI.Storable (upEmb : UEmb _ 𝕄) ((plan m).payload g r d) := by
  show BI.Storable upEmb (((role g.2).map (handed m g.1.1)).getD iprop(emp))
  cases role g.2 with
  | none => show BI.Storable upEmb (iprop(emp) : sProp 𝕄); infer_instance
  | some j => show BI.Storable upEmb (handed m g.1.1 j); infer_instance

section Plan
variable (c : Dev nD) (j : Ix)

/-- Each semaphore is raised once in its only round; -/
theorem plan_duties : (plan m).duties (cellAt c j) 0 = {()} := by
  dsimp only [plan]; rw [role_semOf]; exact if_pos ⟨rfl, rfl, rfl⟩
/-- there is no later round. -/
theorem plan_over (g : GSem nD τ sig) : ∀ r, 0 + 1 ≤ r → (plan m).duties g r = ∅ :=
  fun r hr => if_neg fun h => by have := h.1; omega
/-- The one raise is of that round, -/
theorem plan_mem : () ∈ (plan m).duties (cellAt c j) 0 := by rw [plan_duties]; exact Finset.mem_singleton_self _
/-- by so many units, -/
theorem plan_amount : (plan m).amount (cellAt c j) 0 () = units j := by dsimp only [plan]; rw [role_semOf]; rfl
/-- and hands over what it does. -/
theorem plan_payload : (plan m).payload (cellAt c j) 0 () = handed m c j := by dsimp only [plan]; rw [role_semOf]; rfl
/-- A wait expects all units of the round, -/
theorem plan_expect : (plan m).expect (cellAt c j) 0 = units j := by
  unfold Schedule.expect Schedule.amountOf; rw [plan_duties, Finset.sum_singleton, plan_amount]
/-- and gets all that was handed over. -/
theorem plan_rest : bigSep ((plan m).duties (cellAt c j) 0 \ ∅) (fun d => (plan m).payload (cellAt c j) 0 d) = handed m c j := by
  rw [Finset.sdiff_empty, plan_duties, bigSep_singleton, plan_payload]

end Plan

/-! ## What is owed, and the order of the waits -/

/-- What device `c` still owes its partner's receive semaphores once the first `n` copies are under way. -/
def dueFrom (c : Dev nD) (n : ℕ) : CellTallies nD τ sig Unit :=
  ∑ k ∈ Finset.univ.filter (fun k : Fin 8 => n ≤ k.val), tallyAt (recvCell (peer c) k) () N

/-- What it owes at the start: the barrier's unit besides. -/
def due (c : Dev nD) : CellTallies nD τ sig Unit := dueFrom c 0 + tallyAt (barCell (peer c)) () 1

/-- Sending block `k` settles one arrival of what is owed; -/
theorem dueFrom_step (c : Dev nD) (k : Fin 8) : dueFrom c k.val = dueFrom c (k.val + 1) + tallyAt (recvCell (peer c) k) () N := by
  unfold dueFrom
  rw [show (Finset.univ.filter fun j : Fin 8 => k.val ≤ j.val) = insert k (Finset.univ.filter fun j : Fin 8 => k.val + 1 ≤ j.val) from by
      ext j
      simp only [Finset.mem_filter, Finset.mem_univ, true_and, Finset.mem_insert, Fin.ext_iff]
      omega,
    Finset.sum_insert (by simp), add_comm]

/-- after the eighth nothing is owed. -/
theorem dueFrom_last (c : Dev nD) : dueFrom c 8 = 0 := by
  unfold dueFrom
  rw [Finset.filter_false_of_mem fun k _ => by have := k.isLt; omega, Finset.sum_empty]

/-- The units of semaphore `j` that its device's partner is answerable for from the start. -/
def promised : Ix → ℕ
  | .inl _ => 1
  | .inr (.inl _) => 0
  | .inr (.inr _) => N

/-- What is owed to a semaphore, as a sum over the blocks still to be sent. -/
theorem dueFrom_apply (c : Dev nD) (g : GSem nD τ sig) (u : Unit) (n : ℕ) :
    dueFrom c n g u = ∑ k ∈ Finset.univ.filter (fun k : Fin 8 => n ≤ k.val), (tallyAt (recvCell (peer c) k) () N : CellTallies nD τ sig Unit) g u := by
  unfold dueFrom
  rw [Finset.sum_apply, Finsupp.finset_sum_apply]

/-- What is owed from block `n` on is owed to the partner's arrivals, -/
theorem dueFrom_pos {c : Dev nD} {n : ℕ} {g : GSem nD τ sig} {u : Unit} (h : 0 < dueFrom c n g u) :
    ∃ k, g = recvCell (peer c) k := by
  rw [dueFrom_apply] at h
  by_contra hn
  rw [Finset.sum_eq_zero fun k _ => by
    rw [tallyAt_apply, if_neg fun h' => hn ⟨k, h'.1⟩]] at h
  exact Nat.lt_irrefl 0 h

/-- and at the start to its barrier too. -/
theorem due_pos {c : Dev nD} {g : GSem nD τ sig} {u : Unit} (h : 0 < due c g u) :
    (∃ k, g = recvCell (peer c) k) ∨ g = barCell (peer c) := by
  unfold due at h
  rw [Pi.add_apply, Finsupp.add_apply] at h
  rcases Nat.eq_zero_or_pos (dueFrom c 0 g u) with h0 | h0
  · rw [h0, Nat.zero_add, tallyAt_apply] at h
    right
    by_contra hn
    rw [if_neg fun h' => hn h'.1] at h
    exact Nat.lt_irrefl 0 h
  · exact .inl (dueFrom_pos h0)

/-- What device `d` owes semaphore `j` of device `c`: all that is promised, if it is the partner. -/
theorem due_at (d c : Dev nD) (j : Ix) : due d (cellAt c j) () = if d = peer c then promised j else 0 := by
  by_cases h : d = peer c
  · subst h
    rw [if_pos rfl]
    unfold due
    rw [Pi.add_apply, Finsupp.add_apply, dueFrom_apply, peer_peer]
    rcases j with _ | k | k
    · rw [Finset.sum_eq_zero fun k _ => by
          rw [tallyAt_apply, if_neg fun h => by cases (cellAt_inj (i := .inl ()) (j := .inr (.inr k)) h.1).2],
        Nat.zero_add, tallyAt_apply]
      exact if_pos ⟨rfl, rfl⟩
    · rw [Finset.sum_eq_zero fun k' _ => by
          rw [tallyAt_apply, if_neg fun h => by cases (cellAt_inj (i := .inr (.inl k)) (j := .inr (.inr k')) h.1).2],
        Nat.zero_add, tallyAt_apply]
      exact if_neg fun h => by cases (cellAt_inj (i := .inr (.inl k)) (j := .inl ()) h.1).2
    · rw [Finset.sum_eq_single k
          (fun k' _ hne => by
            rw [tallyAt_apply, if_neg fun h => hne (by
              have := (cellAt_inj (i := .inr (.inr k)) (j := .inr (.inr k')) h.1).2
              exact (Sum.inr.inj (Sum.inr.inj this)).symm)])
          (fun h => absurd (Finset.mem_filter.mpr ⟨Finset.mem_univ k, Nat.zero_le k.val⟩) h),
        tallyAt_apply, if_pos ⟨rfl, rfl⟩, tallyAt_apply,
        if_neg fun h => by cases (cellAt_inj (i := .inr (.inr k)) (j := .inl ()) h.1).2]
      rfl
  · rw [if_neg h]
    by_contra hn
    have hc : cellAt c j ∈ ({g | g.1.1 = peer d} : Set (GSem nD τ sig)) := by
      rcases due_pos (Nat.pos_of_ne_zero hn) with ⟨k, hk⟩ | hb
      · rw [hk]; rfl
      · rw [hb]; rfl
    exact h (by rw [← peer_peer d]; exact congrArg peer (show c = peer d from hc).symm)

/-- Every semaphore of the kernel's processor has one level. -/
def L (g : GSem nD τ sig) : Finset Unit := if g.1.2 = .tc then {()} else ∅
/-- The barrier is waited for before the receive semaphores, and nothing else is owed during a wait. -/
def lv (g : GSem nD τ sig) (_ : Unit) : ℕ := match role g.2 with
  | some (.inl _) => 1
  | some (.inr (.inr _)) => 2
  | _ => 0

/-- No other processor's has one; -/
theorem L_of_ne (g : GSem nD τ sig) (h : g.1.2 ≠ .tc) : L g = ∅ := if_neg h
/-- the kernel's has it, -/
theorem L_tc (c : Dev nD) (sm : SemLoc sig) : L ((c : Thread nD τ), sm) = {()} := if_pos rfl
/-- the barrier's level is 1, -/
theorem lv_bar (c : Dev nD) : lv (barCell c) () = 1 := by
  unfold lv; rw [show role (barCell c).2 = _ from role_semOf (.inl ())]
/-- an arrival's is 2. -/
theorem lv_recv (c : Dev nD) (k : Fin 8) : lv (recvCell c k) () = 2 := by
  unfold lv; rw [show role (recvCell c k).2 = _ from role_semOf (.inr (.inr k))]

/-- While the operands are staged in and the result out, waiting is in order; -/
theorem wait_staging (c : Dev nD) (q : DmaSem sig) (hq : ∀ j, semOf j ≠ .dma q) (O : CellTallies nD τ sig Unit) (hO : O = due c ∨ O = 0) :
    (levAts L lv : sProp 𝕄) ⊢ MayWait (c : Thread nD τ) (.dma q) () O := by
  rcases hO with rfl | rfl
  · have h0 : lv ((c : Thread nD τ), .dma q) () = 0 := by
      unfold lv
      cases h : role (.dma q) with
      | none => rfl
      | some j => exact absurd (semOf_of_role h) (hq j)
    refine MayOwe.of_cut (L := L) (lev := lv) 0
      (fun p hp => by rw [Finset.mem_singleton.mp hp, L_tc]; exact Finset.mem_singleton_self _)
      (fun g u hg => by rcases due_pos hg with ⟨k, rfl⟩ | rfl <;> exact Finset.mem_singleton_self _)
      (fun p hp => by rw [Finset.mem_singleton.mp hp]; exact Nat.le_of_eq h0)
      (fun g u hg => by
        rcases due_pos hg with ⟨k, rfl⟩ | rfl
        · rw [lv_recv]; decide
        · rw [lv_bar]; decide)
  · rw [MayWait_zero]; iintro -; iempintro

/-- and so it is at the barrier, owing the copies only. -/
theorem wait_barrier (c : Dev nD) : (levAts L lv : sProp 𝕄) ⊢ MayWait (c : Thread nD τ) (.reg barS) () (dueFrom c 0) :=
  MayOwe.of_cut (L := L) (lev := lv) 1
    (fun p hp => by rw [Finset.mem_singleton.mp hp, L_tc]; exact Finset.mem_singleton_self _)
    (fun g u hg => by obtain ⟨k, rfl⟩ := dueFrom_pos hg; exact Finset.mem_singleton_self _)
    (fun p hp => by rw [Finset.mem_singleton.mp hp]; exact Nat.le_of_eq (lv_bar c))
    (fun g u hg => by obtain ⟨k, rfl⟩ := dueFrom_pos hg; rw [lv_recv]; decide)

/-! ## The scratch buffer in blocks -/

/-- All of it is the eight blocks of either slab. -/
theorem scratch_split (c : Dev nD) (f : Scr F) :
    (((c : Thread nD τ).loc cc0_scratch0) ↦{fullShare} f : sProp 𝕄)
      = iprop((bigSep Finset.univ fun k : Fin 8 => slabPts c 0 k f) ∗ bigSep Finset.univ fun k : Fin 8 => slabPts c 1 k f) := by
  have h := pointsTo_biUnion (Ix := Unit) (Val := Elt F) (Name := ℕ) (U := UU) (Lvl := ℕ) (ℓ := ((c : Thread nD τ).loc cc0_scratch0))
    (q := fullShare) (f := f)
    (Finset.univ : Finset (Fin 2 × Fin 8)) (fun p => (cR p.1 p.2).set) fun p _ q _ hpq => cR_apart hpq
  rw [cR_cover, bigSep_univ_prod, bigSep_fin_two] at h
  simp only [slabPts_eq]
  exact h

/-- The blocks, each at some contents, are the whole at some. -/
theorem scratch_join (c : Dev nD) :
    iprop((bigSep Finset.univ fun k : Fin 8 => slabAny c 0 k) ∗ bigSep Finset.univ fun k : Fin 8 => slabAny c 1 k)
      ⊢ (iprop(∃ f : Scr F, ((c : Thread nD τ).loc cc0_scratch0) ↦{fullShare} f) : sProp 𝕄) := by
  have h0 : iprop((bigSep Finset.univ fun k : Fin 8 => slabAny c 0 k) ∗ bigSep Finset.univ fun k : Fin 8 => slabAny c 1 k)
      = (bigSep Finset.univ fun p : Fin 2 × Fin 8 => (slabAny c p.1 p.2 : sProp 𝕄)) := by
    rw [bigSep_univ_prod, bigSep_fin_two]
    rfl
  rw [h0]
  refine (BI.bigSep_exists_pi Finset.univ (fun (p : Fin 2 × Fin 8) (f : Scr F) => (slabPts c p.1 p.2 f : sProp 𝕄))).trans ?_
  iintro ⟨%fs, H⟩
  have h := pointsTo_biUnion_join (Ix := Unit) (Val := Elt F) (Name := ℕ) (U := UU) (Lvl := ℕ) (ℓ := ((c : Thread nD τ).loc cc0_scratch0))
    (q := fullShare)
    (Finset.univ : Finset (Fin 2 × Fin 8)) (fun p => (cR p.1 p.2).set) fs (fs (0, 0)) fun p _ q _ hpq => cR_apart hpq
  rw [cR_cover] at h
  simp only [slabPts_eq]
  ihave H' := h $$ H
  icases H' with ⟨%g, -, H⟩
  iexists g
  iexact H

end Cert.ChunkedReduce

end
-- ==== Proof.Proof.Passes.lean ====
/-
# The two passes, block by block

What one step of either pass takes and leaves, for every block `k` alike, and from that what the whole pass does.
-/
module

public import proofs.«01_k».proof.Proof.Proof.Protocol

@[expose] public section

noncomputable section

namespace Cert.ChunkedReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ix → ℕ)

/-- No loop needs a measure. -/
abbrev 𝒱₀ : Variants := Variants.none

/-- What the run of `p` on device `c` does, ending in `Q`. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

omit [FloatOps F] in
/-- What is held for each of eight blocks, written out. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A pass whose step `k` takes what is true after `k` steps and its own `A k`, and leaves what is true after `k + 1`
    and its own `B k`. -/
theorem runs_eight (c : Dev nD) (p : Fin 8 → Prog (TpuEff nD τ sig (Elt F) Λ₀ .tc) PUnit) (I : ℕ → sProp 𝕄) (A B : Fin 8 → sProp 𝕄)
    (h : ∀ (k : Fin 8) (Q : PUnit → sProp 𝕄), iprop((I k.val ∗ A k) ∗ ((I (k.val + 1) ∗ B k) -∗ Q ⟨⟩)) ⊢ runs c (p k) Q)
    (Q : PUnit → sProp 𝕄) :
    iprop((I 0 ∗ bigSep Finset.univ A) ∗ ((I 8 ∗ bigSep Finset.univ B) -∗ Q ⟨⟩)) ⊢ runs c (eight p) Q := by
  rw [bigSep_eight, bigSep_eight]
  unfold eight runs
  simp only [wp_bind]
  have e (k : Fin 8) (a b : ℕ) (ha : a = k.val) (hb : b = k.val + 1) (Q : PUnit → sProp 𝕄) :
      iprop((I a ∗ A k) ∗ ((I b ∗ B k) -∗ Q ⟨⟩)) ⊢ runs c (p k) Q := by subst ha hb; exact h k Q
  iintro ⟨⟨HI, A0, A1, A2, A3, A4, A5, A6, A7⟩, HQ⟩
  iapply (e 0 0 1 rfl rfl); isplitl [HI A0]; · isplitl [HI] <;> iassumption
  iintro ⟨HI, B0⟩
  iapply (e 1 1 2 rfl rfl); isplitl [HI A1]; · isplitl [HI] <;> iassumption
  iintro ⟨HI, B1⟩
  iapply (e 2 2 3 rfl rfl); isplitl [HI A2]; · isplitl [HI] <;> iassumption
  iintro ⟨HI, B2⟩
  iapply (e 3 3 4 rfl rfl); isplitl [HI A3]; · isplitl [HI] <;> iassumption
  iintro ⟨HI, B3⟩
  iapply (e 4 4 5 rfl rfl); isplitl [HI A4]; · isplitl [HI] <;> iassumption
  iintro ⟨HI, B4⟩
  iapply (e 5 5 6 rfl rfl); isplitl [HI A5]; · isplitl [HI] <;> iassumption
  iintro ⟨HI, B5⟩
  iapply (e 6 6 7 rfl rfl); isplitl [HI A6]; · isplitl [HI] <;> iassumption
  iintro ⟨HI, B6⟩
  iapply (e 7 7 8 rfl rfl); isplitl [HI A7]; · isplitl [HI] <;> iassumption
  iintro ⟨HI, B7⟩
  iapply HQ
  isplitl [HI]; · iexact HI
  isplitl [B0]; · iexact B0
  isplitl [B1]; · iexact B1
  isplitl [B2]; · iexact B2
  isplitl [B3]; · iexact B3
  isplitl [B4]; · iexact B4
  isplitl [B5]; · iexact B5
  isplitl [B6] <;> iassumption

/-! ## The first pass -/

/-- `dy`'s staging buffer as fetched; -/
abbrev xPts (c : Dev nD) : sProp 𝕄 := ((c : Thread nD τ).loc cc0_stg0_0) ↦{fullShare} xstg m c
/-- the result's staging buffer with the contents `f`. -/
abbrev oPts (c : Dev nD) (f : OutBuf F) : sProp 𝕄 := ((c : Thread nD τ).loc cc0_stg2_0) ↦{fullShare} f

/-- After `n` steps: `dy` as staged, the first `n` blocks of the result the products, the other copies owed. -/
def mid1 (c : Dev nD) (W : Waits sig Unit) (n : ℕ) : sProp 𝕄 :=
  iprop(xPts m c ∗ (∃ f, ⌜Upto (prodAt m c) n f⌝ ∗ oPts c f) ∗ owes (c : Thread nD τ) (dueFrom c n) W)
/-- What step `k` uses up: the two blocks copied between and the right to raise the two semaphores. -/
def take1 (c : Dev nD) (k : Fin 8) : sProp 𝕄 :=
  iprop(cellInv ER (plan m) (K (c, .inr (.inl k))) (sendCell c k)
    ∗ cellInv ER (plan m) (K (peer c, .inr (.inr k))) (recvCell (peer c) k)
    ∗ slabAny c 0 k ∗ slabAny (peer c) 1 k
    ∗ dutyTok ER (sendCell c k) 0 () ∗ reached ER (sendCell c k) 0
    ∗ dutyTok ER (recvCell (peer c) k) 0 () ∗ reached ER (recvCell (peer c) k) 0)

/-- A store into a block the device holds. -/
theorem cR_held (s : Fin 2) (k : Fin 8) : (cM.access (cR s k)).set ⊆ (slab s k).view.set := by
  rw [slab_set]
  show ((View.whole cc0_scratch0).slice (cR s k)).set ⊆ _
  rw [View.set_slice_whole]

/-- Every block counts the same. -/
theorem credit_eq (s : Fin 2) (k : Fin 8) : (slab s k).view.dmaCredit = N := rfl

/-- The block sent from is what its semaphore hands back; -/
theorem handed_back (c : Dev nD) (k : Fin 8) (f : Scr F) :
    slabPts c 0 k f ⊢ (plan m).payload (cellAt c (.inr (.inl k))) 0 () := by
  rw [plan_payload]
  show _ ⊢ slabAny c 0 k
  unfold slabAny
  iintro H; iexists f; iexact H

/-- the block it lands in, then reading what was stored, is what the partner's hands over. -/
theorem handed_over (c : Dev nD) (k : Fin 8) (fs fn : Scr F) :
    slabPts (peer c) 1 k ((slab 1 k).view.write (Elt F) fn
        ((slab 0 k).view.read (Elt F) ((cM.access (cR 0 k)).write (Elt F) fs (sentAt m c k) Finset.univ)) Finset.univ)
      ⊢ (plan m).payload (cellAt (peer c) (.inr (.inr k))) 0 () := by
  rw [plan_payload]
  show _ ⊢ slabGot m (peer c) k
  unfold slabGot
  rw [peer_peer]
  iintro H; iexists _
  isplitr
  swap
  · iexact H
  · ipureintro; exact landed_reads k fn fs (sentAt m c k)

/-- The copy of block `k` to the partner. -/
theorem runs_copy (c n : Dev nD) (hn : n = peer c) (k : Fin 8) (fs fn : Scr F) (W : Waits sig Unit)
    (hsc : (slab 1 k).view.ref.isScScratch = false)
    (hsrc : (slab 0 k).view.WordExact) (hdst : (slab 1 k).view.WordExact)
    (hsem : DmaTarget.Typed .vmem (.dma (recvS k)) (.remote (Dev.tc n : Thread nD τ) (slab 1 k) (.dma (sendS k)) hsc))
    (Q : PUnit → sProp 𝕄) (kt : PUnit → Prog (TpuEff nD τ sig (Elt F) Λ₀ .tc) PUnit) :
    iprop(cellInv ER (plan m) (K (c, .inr (.inl k))) (sendCell c k)
        ∗ cellInv ER (plan m) (K (peer c, .inr (.inr k))) (recvCell (peer c) k)
        ∗ slabPts c 0 k ((cM.access (cR 0 k)).write (Elt F) fs (sentAt m c k) Finset.univ) ∗ slabPts (peer c) 1 k fn
        ∗ owes (c : Thread nD τ) (dueFrom c k.val) W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) (dueFrom c (k.val + 1)) W) -∗ runs c (kt ⟨⟩) Q)
          -∗ runs c (.op (.enqueueDma (slab 0 k) (.remote (Dev.tc n : Thread nD τ) (slab 1 k) (.dma (sendS k)) hsc) (.dma (recvS k)) hsrc hdst hsem) kt) Q) := by
  subst hn
  unfold slabPts
  have h := fun h1 h2 => Rounds.wp_send_pointsTo (hsc := hsc) (hsrc := hsrc) (hdst := hdst) (hsem := hsem) (α := PUnit) (Q := Q) (k := kt)
    (Γ := PendingWaitsCtx.empty) (defs := defs₀ (F := F)) 𝒱₀ ER (plan m) (c : Thread nD τ) none
    (κ₁ := K (c, .inr (.inl k))) (κ₂ := K (peer c, .inr (.inr k))) (r₁ := 0) (r₂ := 0) (d₁ := ()) (d₂ := ())
    (fd := fn) (fs := (cM.access (cR 0 k)).write (Elt F) fs (sentAt m c k) Finset.univ) (q := fullShare)
    (by exact plan_mem m c (.inr (.inl k))) (by exact plan_mem m (peer c) (.inr (.inr k)))
    () () N (by exact credit_eq 1 k) (by exact plan_amount m c (.inr (.inl k))) (by exact plan_amount m (peer c) (.inr (.inr k)))
    (dueFrom c (k.val + 1)) (by exact dueFrom_step c k) (W := W) (Es := Set.univ) h1 h2
  exact h (handed_back m c k _) (handed_over m c k fs fn)

/-- One step of the first pass. -/
theorem runs_pass1 (c : Dev nD) (W : Waits sig Unit) (k : Fin 8) (Q : PUnit → sProp 𝕄) :
    iprop((mid1 m c W k.val ∗ take1 m K c k) ∗ ((mid1 m c W (k.val + 1) ∗ cred (tallyAt (sendCell c k) () N)) -∗ Q ⟨⟩))
      ⊢ runs c (pass1 c (wAt m c) k) Q := by
  unfold pass1 mid1 take1 slabAny
  simp only [Prog.lift, Prog.bind_op, Prog.bind_ret, Prog.pure_eq_ret]
  iintro ⟨⟨⟨Hx, ⟨%fo, %hfo, Hout⟩, HO⟩, HIs, HIr, ⟨%fs, Hs⟩, ⟨%fn, Hn⟩, Hts, Hrs, Htr, Hrr⟩, HQ⟩
  iapply (wp_load 𝒱₀ (c : Thread nD τ) none Set.univ (m := xM) (Finset.subset_univ _)) $$ Hx; iintro Hx
  ihave Hs := (Entails.of_eq (show slabPts c 0 k fs = ((slab 0 k).view.loc (c : Thread nD τ) ↦[(slab 0 k).view.set]{fullShare} fs : sProp 𝕄) from rfl)) $$ Hs
  iapply (wp_load_rect 𝒱₀ (c : Thread nD τ) none Set.univ (m := cM) (r := cR 0 k) (cR_held 0 k)) $$ Hs; iintro Hs
  iapply (wp_store 𝒱₀ (c : Thread nD τ) none Set.univ (m := cM) (r := cR 0 k) (Mk := Finset.univ) (cR_held 0 k)) $$ Hs; iintro Hs
  iapply (wp_load 𝒱₀ (c : Thread nD τ) none Set.univ (m := oM) (Finset.subset_univ _)) $$ Hout; iintro Hout
  iapply (wp_store 𝒱₀ (c : Thread nD τ) none Set.univ (m := oM) (r := oR k) (Mk := Finset.univ) (Finset.subset_univ _)) $$ Hout; iintro Hout
  iapply (runs_copy m K c _ (tgt_peer c) k fs fn W) $$ [HIs HIr Hs Hn HO Hts Hrs Htr Hrr]
  · isplitl [HIs]; · iexact HIs
    isplitl [HIr]; · iexact HIr
    isplitl [Hs]
    · unfold slabPts sentAt xAt; iexact Hs
    isplitl [Hn]; · iexact Hn
    isplitl [HO]; · iexact HO
    isplitl [Hts]; · iexact Hts
    isplitl [Hrs]; · iexact Hrs
    isplitl [Htr] <;> iassumption
  iintro ⟨Hc, HO⟩
  unfold runs; rw [wp_ret]; imodintro
  iapply HQ
  isplitr [Hc]
  · isplitl [Hx]; · iexact Hx
    isplitl [Hout]
    · iexists _
      isplitr
      · ipureintro
        exact hfo.store
      · iexact Hout
    · iexact HO
  · iexact Hc

/-! ## The second pass -/

/-- After `n` steps: the first `n` blocks of the result final, the others still the products, nothing owed. -/
def mid2 (c : Dev nD) (n : ℕ) : sProp 𝕄 :=
  iprop((∃ f, ⌜Upto (finalAt m c) n f ∧ From (prodAt m c) n f⌝ ∗ oPts c f) ∗ ∃ W, owes (c : Thread nD τ) 0 W)
/-- What step `k` uses up: the right to wait for the two semaphores, -/
def take2 (c : Dev nD) (k : Fin 8) : sProp 𝕄 :=
  iprop(cellInv ER (plan m) (K (c, .inr (.inl k))) (sendCell c k)
    ∗ cellInv ER (plan m) (K (c, .inr (.inr k))) (recvCell c k)
    ∗ cred (tallyAt (sendCell c k) () N) ∗ cred (tallyAt (recvCell c k) () N)
    ∗ atPos ER (sendCell c k) 0 ∅ 0 ∗ atPos ER (recvCell c k) 0 ∅ 0)
/-- and what it leaves: both at zero for good, and the device's two blocks back. -/
def give2 (c : Dev nD) (k : Fin 8) : sProp 𝕄 :=
  iprop(semVal (sendCell c k) 0 ∗ semVal (recvCell c k) 0 ∗ slabAny c 0 k ∗ slabAny c 1 k)

/-- One step of the second pass. -/
theorem runs_pass2 (c : Dev nD) (k : Fin 8) (Q : PUnit → sProp 𝕄) :
    iprop((mid2 m c k.val ∗ take2 m K c k) ∗ ((mid2 m c (k.val + 1) ∗ give2 c k) -∗ Q ⟨⟩)) ⊢ runs c (pass2 k) Q := by
  unfold pass2 mid2 take2 give2
  simp only [Prog.lift, Prog.bind_op, Prog.bind_ret, Prog.pure_eq_ret]
  iintro ⟨⟨⟨⟨%fo, %hfo, Hout⟩, ⟨%W, HO⟩⟩, #HIs, #HIr, Hcs, Hcr, Hps, Hpr⟩, HQ⟩
  iapply (Rounds.wp_wait_rest_token 𝒱₀ ER (plan m) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, credit_eq]; exact (plan_expect m c (.inr (.inr k))).symm)) $$ [Hcr HO Hpr]
  · isplitr; · iexact HIr
    isplitl [Hcr]; · iexact Hcr
    isplitl [HO]; · iexact HO
    isplitr; · rw [MayWait_zero]; iempintro
    iexact Hpr
  iintro ⟨HO, Hpr, -, Hpay⟩
  ihave Hg := (Entails.of_eq (plan_rest m c (.inr (.inr k)))) $$ Hpay
  ihave Hg := (show handed m c (.inr (.inr k)) ⊢ slabGot m c k from BI.Entails.refl _) $$ Hg
  unfold slabGot
  icases Hg with ⟨%fr, %hfr, Hr⟩
  iapply (wp_load 𝒱₀ (c : Thread nD τ) none Set.univ (m := oM) (Finset.subset_univ _)) $$ Hout; iintro Hout
  ihave Hr := (Entails.of_eq (show slabPts c 1 k fr = ((slab 1 k).view.loc (c : Thread nD τ) ↦[(slab 1 k).view.set]{fullShare} fr : sProp 𝕄) from rfl)) $$ Hr
  iapply (wp_load_rect 𝒱₀ (c : Thread nD τ) none Set.univ (m := cM) (r := cR 1 k) (cR_held 1 k)) $$ Hr; iintro Hr
  iapply (wp_load 𝒱₀ (c : Thread nD τ) none Set.univ (m := oM) (Finset.subset_univ _)) $$ Hout; iintro Hout
  iapply (wp_store 𝒱₀ (c : Thread nD τ) none Set.univ (m := oM) (r := oR k) (Mk := Finset.univ) (Finset.subset_univ _)) $$ Hout; iintro Hout
  iapply (Rounds.wp_wait_rest_token 𝒱₀ ER (plan m) (c : Thread nD τ) none (κ := K (c, .inr (.inl k)))
      (wpE_waitDma2_eq 𝒱₀ (c : Thread nD τ) none Set.univ) (Set.mem_univ _) () (O := 0)
      (W := insert (SemLoc.dma (recvS k), ()) W) (R := 0) (m := 0) (T := ∅)
      (by rw [Nat.zero_add, credit_eq]; exact (plan_expect m c (.inr (.inl k))).symm)) $$ [Hcs HO Hps]
  · isplitr; · iexact HIs
    isplitl [Hcs]; · iexact Hcs
    isplitl [HO]; · iexact HO
    isplitr; · rw [MayWait_zero]; iempintro
    iexact Hps
  iintro ⟨HO, Hps, -, Hpay⟩
  ihave Hs := (Entails.of_eq (plan_rest m c (.inr (.inl k)))) $$ Hpay
  ihave Hs := (show handed m c (.inr (.inl k)) ⊢ slabAny c 0 k from BI.Entails.refl _) $$ Hs
  imod (Rounds.cell_close ER (plan m) (Set.mem_univ (K (c, .inr (.inl k)))) (fun h => h) (R := 0 + 1) (plan_over m (sendCell c k))) $$ [Hps] with Hzs
  · isplitr; · iexact HIs
    iexact Hps
  imod (Rounds.cell_close ER (plan m) (Set.mem_univ (K (c, .inr (.inr k)))) (fun h => h) (R := 0 + 1) (plan_over m (recvCell c k))) $$ [Hpr] with Hzr
  · isplitr; · iexact HIr
    iexact Hpr
  rw [wp_ret]; imodintro
  iapply HQ
  isplitl [Hout HO]
  · isplitl [Hout]
    · iexists _
      isplitr
      swap
      · iexact Hout
      · ipureintro
        have e : total (oM.view.readAt (Elt F) (oR k).toLoadRect fo) ((cM.access (cR 1 k)).read (Elt F) fr) = finalAt m c k := by
          unfold finalAt
          rw [← hfr, ← hfo.2 k le_rfl]
          rfl
        rw [e]
        exact ⟨hfo.1.store, hfo.2.store _⟩
    · iexists _; iexact HO
  · isplitl [Hzs]; · iexact Hzs
    isplitl [Hzr]; · iexact Hzr
    isplitl [Hs]; · iexact Hs
    unfold slabAny slabPts; iexists fr; iexact Hr

end Cert.ChunkedReduce

end
-- ==== Proof.Proof.Body.lean ====
/-
# One device's run

What a device starts from, what it ends with, and that the kernel leads from the one to the other: the handshake hands
over the landing blocks, the first pass sends, the second adds.
-/
module

public import proofs.«01_k».proof.Proof.Proof.Passes

@[expose] public section

noncomputable section

namespace Cert.ChunkedReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The semaphore device `c` raises of kind `j`: its own where its copy leaves, its partner's otherwise. -/
abbrev raisedBy (c : Dev nD) : Ix → GSem nD τ sig
  | .inl _ => barCell (peer c)
  | .inr (.inl k) => sendCell c k
  | .inr (.inr k) => recvCell (peer c) k

/-- What every device may know: where each semaphore's invariant is kept, and that its round 0 is open. -/
def records (K : Dev nD × Ix → ℕ) : sProp 𝕄 :=
  iprop((bigSep Finset.univ fun cj : Dev nD × Ix => cellInv ER (plan m) (K cj) (cellAt cj.1 cj.2))
    ∗ bigSep Finset.univ fun cj : Dev nD × Ix => reached ER (cellAt cj.1 cj.2) 0)

/-- The records can be used any number of times. -/
instance records_persistent (K : Dev nD × Ix → ℕ) : BI.Persistent (records m K) := by unfold records; infer_instance

/-- They have the invariant of every semaphore, -/
theorem records_inv (K : Dev nD × Ix → ℕ) (c : Dev nD) (j : Ix) : records m K ⊢ cellInv ER (plan m) (K (c, j)) (cellAt c j) := by
  have h : (bigSep Finset.univ fun cj : Dev nD × Ix => (cellInv ER (plan m) (K cj) (cellAt cj.1 cj.2) : sProp 𝕄))
      ⊢ cellInv ER (plan m) (K (c, j)) (cellAt c j) := bigSep_elim (Finset.mem_univ (c, j))
  unfold records
  iintro ⟨H, -⟩
  iapply h; iexact H
/-- and that every semaphore is at its first round. -/
theorem records_reached (K : Dev nD × Ix → ℕ) (c : Dev nD) (j : Ix) : records m K ⊢ reached ER (cellAt c j) 0 := by
  have h : (bigSep Finset.univ fun cj : Dev nD × Ix => (reached ER (cellAt cj.1 cj.2) 0 : sProp 𝕄)) ⊢ reached ER (cellAt c j) 0 :=
    bigSep_elim (Finset.mem_univ (c, j))
  unfold records
  iintro ⟨-, H⟩
  iapply h; iexact H

/-- What is device `c`'s alone: its place at each of its semaphores, and the right to raise those it raises. -/
def alone (c : Dev nD) : sProp 𝕄 :=
  iprop((bigSep Finset.univ fun j : Ix => atPos ER (cellAt c j) 0 ∅ 0) ∗ bigSep Finset.univ fun j : Ix => dutyTok ER (raisedBy c j) 0 ())
/-- What the launch's set-up deals to device `c`: the records and what is its alone. -/
def dealt (c : Dev nD) : sProp 𝕄 := iprop(∃ K, records m K ∗ alone c)
/-- That, what its partner is to raise its semaphores by, and the order of the waits. -/
def start (c : Dev nD) : sProp 𝕄 :=
  iprop(dealt m c ∗ (bigSep Finset.univ fun j : Ix => cred (tallyAt (cellAt c j) () (promised j))) ∗ levAts L lv)

/-- The scratch buffer, with any contents. -/
def scrAny (c : Dev nD) : sProp 𝕄 := iprop(∃ f : Scr F, ((c : Thread nD τ).loc cc0_scratch0) ↦{fullShare} f)
/-- What the kernel of device `c` begins with. -/
def before0 (c : Dev nD) : sProp 𝕄 := iprop(start m c ∗ scrAny c)
/-- At the end its semaphores are all at zero and the scratch buffer is whole again. -/
def after0 (c : Dev nD) : sProp 𝕄 := iprop((bigSep Finset.univ fun j : Ix => semVal (cellAt c j) 0) ∗ scrAny c)

/-- The data of the run for the staging pipeline. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => before0 m c
    | ⟨_ + 1, _⟩ => after0 c
  q _ := fullShare
  owed t := match t with
    | ⟨0, _⟩ => due c
    | ⟨_ + 1, _⟩ => 0

omit [FloatOps F] in
/-- Owning a whole staging buffer is owning it at its contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The run of the body -/

omit [FloatOps F] in
/-- A fact anyone may know joined to each part of a collection. -/
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A collection over the seventeen semaphores, by kind. -/
theorem bigSep_kinds (Φ : Ix → sProp 𝕄) :
    bigSep Finset.univ Φ = iprop(Φ (.inl ()) ∗ (bigSep Finset.univ fun k : Fin 8 => Φ (.inr (.inl k))) ∗ bigSep Finset.univ fun k : Fin 8 => Φ (.inr (.inr k))) := by
  rw [bigSep_univ_sum, bigSep_univ_sum, bigSep_univ_of_subsingleton ()]
  rfl

omit [FloatOps F] in
/-- A slab's eight blocks with known contents are its eight blocks with any. -/
theorem slabs_any (c : Dev nD) (s : Fin 2) (f : Scr F) :
    (bigSep Finset.univ fun k : Fin 8 => (slabPts c s k f : sProp 𝕄)) ⊢ bigSep Finset.univ fun k : Fin 8 => slabAny c s k :=
  bigSep_mono fun k _ => show slabPts c s k f ⊢ slabAny c s k by unfold slabAny; iintro H; iexists f; iexact H

/-- What the first pass takes, from the records and the parts. -/
theorem take1_all (K : Dev nD × Ix → ℕ) (c : Dev nD) :
    iprop(records m K ∗ (bigSep Finset.univ fun k : Fin 8 => slabAny c 0 k) ∗ (bigSep Finset.univ fun k : Fin 8 => slabAny (peer c) 1 k)
        ∗ (bigSep Finset.univ fun k : Fin 8 => dutyTok ER (sendCell c k) 0 ()) ∗ bigSep Finset.univ fun k : Fin 8 => dutyTok ER (recvCell (peer c) k) 0 ())
      ⊢ bigSep Finset.univ (take1 m K c) := by
  rw [← bigSep_sep', ← bigSep_sep', ← bigSep_sep']
  refine with_each fun k _ => ?_
  unfold take1
  iintro ⟨#HR, Hs, Hn, Hts, Htr⟩
  isplitr; · iapply (records_inv m K c (.inr (.inl k))); iexact HR
  isplitr; · iapply (records_inv m K (peer c) (.inr (.inr k))); iexact HR
  isplitl [Hs]; · iexact Hs
  isplitl [Hn]; · iexact Hn
  isplitl [Hts]; · iexact Hts
  isplitr; · iapply (records_reached m K c (.inr (.inl k))); iexact HR
  isplitl [Htr]; · iexact Htr
  iapply (records_reached m K (peer c) (.inr (.inr k))); iexact HR

/-- What the second pass takes. -/
theorem take2_all (K : Dev nD × Ix → ℕ) (c : Dev nD) :
    iprop(records m K ∗ (bigSep Finset.univ fun k : Fin 8 => cred (tallyAt (sendCell c k) () N)) ∗ (bigSep Finset.univ fun k : Fin 8 => cred (tallyAt (recvCell c k) () N))
        ∗ (bigSep Finset.univ fun k : Fin 8 => atPos ER (sendCell c k) 0 ∅ 0) ∗ bigSep Finset.univ fun k : Fin 8 => atPos ER (recvCell c k) 0 ∅ 0)
      ⊢ bigSep Finset.univ (take2 m K c) := by
  rw [← bigSep_sep', ← bigSep_sep', ← bigSep_sep']
  refine with_each fun k _ => ?_
  unfold take2
  iintro ⟨#HR, Hcs, Hcr, Hps, Hpr⟩
  isplitr; · iapply (records_inv m K c (.inr (.inl k))); iexact HR
  isplitr; · iapply (records_inv m K c (.inr (.inr k))); iexact HR
  isplitl [Hcs]; · iexact Hcs
  isplitl [Hcr]; · iexact Hcr
  isplitl [Hps] <;> iassumption

/-- What the second pass leaves, part by part. -/
theorem give2_all (c : Dev nD) :
    bigSep Finset.univ (give2 c) = (iprop((bigSep Finset.univ fun k : Fin 8 => semVal (sendCell c k) 0) ∗ (bigSep Finset.univ fun k : Fin 8 => semVal (recvCell c k) 0)
        ∗ (bigSep Finset.univ fun k : Fin 8 => slabAny c 0 k) ∗ bigSep Finset.univ fun k : Fin 8 => slabAny c 1 k) : sProp 𝕄) := by
  rw [← bigSep_sep', ← bigSep_sep', ← bigSep_sep']
  rfl

/-- A staging buffer with the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given: the start, what it owes, and its three staging buffers. -/
def bodyPre (c : Dev nD) : sProp 𝕄 :=
  iprop(before0 m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
/-- What the body gives back: nothing owed, and the result in its staging buffer. -/
def bodyPost (c : Dev nD) : sProp 𝕄 :=
  iprop(after0 c ∗ (dats m 0 c).owesAt () t0_0.succ
    ∗ stg c cc0_stg0_0 (xstg m c) ∗ stg c cc0_stg1_0 (wstg m c) ∗ stg c cc0_stg2_0 (outAt m c))

set_option maxHeartbeats 800000 in
/-- The kernel runs from the one to the other. -/
theorem runs_body (c : Dev nD) :
    bodyPre m c ⊢ runs c (looped (F := F)) (fun _ => bodyPost m c) := by
  unfold bodyPre before0 start dealt alone looped runs scrAny
  simp only [semSignalWord, semWaitWord, Prog.lift, Prog.bind_op, Prog.bind_ret, Prog.pure_eq_ret, wp_deviceId]
  rw [bigSep_kinds, bigSep_kinds, bigSep_kinds]
  iintro ⟨⟨⟨⟨%K, #HR, ⟨HpB, HpS, HpR⟩, HtB, HtS, HtR⟩, ⟨HcB, -, HcR⟩, #Hlev⟩, ⟨%f0, Hscr⟩⟩,
    Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m 0 c).owed t0_0.castSucc = due c from rfl]
  simp only [signal_peer c]
  ihave Hscr := (Entails.of_eq (scratch_split c f0)) $$ Hscr
  icases Hscr with ⟨Hs0, Hs1⟩
  ihave Hs0 := (slabs_any c 0 f0) $$ Hs0
  ihave Hs1 := (slabs_any c 1 f0) $$ Hs1
  -- the barrier of the partner raised, with this device's landing blocks
  iapply (Rounds.wp_signal 𝒱₀ ER (plan m) (c : Thread nD τ) none (dst := (peer c : Thread nD τ)) (κ := K (peer c, .inl ()))
      (d := ()) (by exact plan_mem m (peer c) (.inl ())) (by exact plan_amount m (peer c) (.inl ())) () (dueFrom c 0) rfl)
    $$ [HO HtB Hs1]
  · isplitr; · iapply (records_inv m K (peer c) (.inl ())); iexact HR
    isplitl [HO]; · iexact HO
    isplitl [HtB]; · iexact HtB
    isplitl [Hs1]
    · iapply (Entails.of_eq (plan_payload m (peer c) (.inl ())).symm)
      unfold handed
      rw [peer_peer]
      iexact Hs1
    · iapply (records_reached m K (peer c) (.inl ())); iexact HR
  iintro HO
  -- its own barrier awaited: the partner's landing blocks
  iapply (Rounds.wp_wait_rest_token 𝒱₀ ER (plan m) (c : Thread nD τ) none (κ := K (c, .inl ()))
      (wpE_semWait_eq 𝒱₀ (c : Thread nD τ) none Set.univ) (Set.mem_univ _) () (O := dueFrom c 0) (W := W) (R := 0) (m := 0) (T := ∅)
      (by exact (plan_expect m c (.inl ())).symm)) $$ [HcB HO HpB]
  · isplitr; · iapply (records_inv m K c (.inl ())); iexact HR
    isplitl [HcB]; · iexact HcB
    isplitl [HO]; · iexact HO
    isplitr; · iapply (wait_barrier c); iexact Hlev
    iexact HpB
  iintro ⟨HO, HpB, -, Hpay⟩
  ihave Hn := (Entails.of_eq (plan_rest m c (.inl ()))) $$ Hpay
  ihave Hn := (show handed m c (.inl ()) ⊢ bigSep Finset.univ fun k : Fin 8 => slabAny (peer c) 1 k from BI.Entails.refl _) $$ Hn
  imod (Rounds.cell_close ER (plan m) (Set.mem_univ (K (c, .inl ()))) (fun h => h) (R := 0 + 1) (plan_over m (barCell c))) $$ [HpB] with HzB
  · isplitr; · iapply (records_inv m K c (.inl ())); iexact HR
    iexact HpB
  iapply (wp_load 𝒱₀ (c : Thread nD τ) none Set.univ (m := wM) (Finset.subset_univ _)) $$ Hw; iintro Hw
  -- the first pass
  rw [wp_bind]
  ihave H1 := (take1_all m K c) $$ [Hs0 Hn HtS HtR]
  · isplitr; · iexact HR
    isplitl [Hs0]; · iexact Hs0
    isplitl [Hn]; · iexact Hn
    isplitl [HtS] <;> iassumption
  iapply (runs_eight c (pass1 c (wAt m c)) (mid1 m c (insert (SemLoc.reg barS, ()) W)) (take1 m K c)
    (fun k => cred (tallyAt (sendCell c k) () N)) (runs_pass1 m K c _))
  isplitl [Hx Hout HO H1]
  · isplitr [H1]
    · unfold mid1
      isplitl [Hx]; · iexact Hx
      isplitl [Hout]
      · iexists g2
        isplitr
        · ipureintro; exact fun j hj => absurd hj (Nat.not_lt_zero _)
        · iexact Hout
      · iexact HO
    · iexact H1
  iintro ⟨Hmid, HcS⟩
  unfold mid1
  icases Hmid with ⟨Hx, ⟨%f1, %hf1, Hout⟩, HO⟩
  rw [dueFrom_last]
  -- the second
  ihave H2 := (take2_all m K c) $$ [HcS HcR HpS HpR]
  · isplitr; · iexact HR
    isplitl [HcS]; · iexact HcS
    isplitl [HcR]; · iexact HcR
    isplitl [HpS] <;> iassumption
  iapply (runs_eight c pass2 (mid2 m c) (take2 m K c) (give2 c) (runs_pass2 m K c))
  isplitl [Hout HO H2]
  · isplitr [H2]
    · unfold mid2
      isplitl [Hout]
      · iexists f1
        isplitr
        · ipureintro; exact ⟨fun j hj => absurd hj (Nat.not_lt_zero _), fun j _ => hf1 j j.isLt⟩
        · iexact Hout
      · iexists _; iexact HO
    · iexact H2
  iintro ⟨Hmid, Hg⟩
  unfold mid2
  icases Hmid with ⟨⟨%f2, %hf2, Hout⟩, ⟨%W', HO⟩⟩
  have hf : f2 = outAt m c := eq_glue f2 (finalAt m c) fun k => hf2.1 k k.isLt
  subst hf
  ihave Hg := (Entails.of_eq (give2_all c)) $$ Hg
  icases Hg with ⟨HzS, HzR, Hs0, Hs1⟩
  ihave Hscr := (scratch_join c) $$ [Hs0 Hs1]
  · isplitl [Hs0] <;> iassumption
  unfold bodyPost after0 Dat.owesAt Pipeline.owesWithin
  rw [show (dats m 0 c).owed t0_0.succ = 0 from rfl, bigSep_kinds]
  isplitl [HzB HzS HzR Hscr]
  · isplitl [HzB HzS HzR]
    · isplitl [HzB]; · iexact HzB
      isplitl [HzS] <;> iassumption
    · unfold scrAny; iexact Hscr
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 8000 in
/-- The obligation of the staging pipeline for the kernel. -/
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ runs c (cc0_body (F := F) xM (Memref.isWhole_whole _) wM (Memref.isWhole_whole _) oM (Memref.isWhole_whole _)
      cM (Memref.isWhole_whole _) cc0_scratch1 cc0_scratch2) (fun _ => bodyPost m c)
  rw [body_eq_looped]
  exact runs_body m c

end Cert.ChunkedReduce

end
-- ==== Proof.Proof.Run.lean ====
/-
# The run on all sixteen devices

The semaphores' invariants are set up for all devices at once, the right to raise a semaphore goes to the device that
raises it, and the bodies then run together. Every run ends, with each device's arrays as computed and every semaphore
at zero.
-/
module

public import proofs.«01_k».proof.Proof.Proof.Body
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.ChunkedReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch deals out -/

/-- The sixteen semaphores that are the kernel's own. -/
abbrev ownSem (i : Own) : SemLoc sig := semOf (.inr i)

/-- They are scoped, different, and none of the staging semaphores. -/
theorem ownSem_facts : Pipeline.OwnSemFacts cfg0.spec ownSem :=
  ⟨by decide, fun i j h => Sum.inr.inj (semOf_injective h), by decide⟩

/-- Every device has its arrays whole. -/
theorem share_full (c : Dev nD) (w : Fin cfg0.W) : (dats m 0 c).share w = fullShare := by unfold Dat.share; split <;> rfl

/-- Each device's semaphores, all different, -/
def cellEmb : Dev nD × Ix ↪ GSem nD τ sig :=
  ⟨fun cj => cellAt cj.1 cj.2, fun a b h => Prod.ext (cellAt_inj h).1 (cellAt_inj h).2⟩
/-- and the right to raise each. -/
def tokEmb : Dev nD × Ix ↪ GSem nD τ sig × ℕ × Unit :=
  ⟨fun cj => (cellAt cj.1 cj.2, 0, ()), fun a b h => cellEmb.injective (congrArg Prod.fst h)⟩
/-- The semaphores of all devices; -/
def allCells : Finset (GSem nD τ sig) := Finset.univ.map cellEmb
/-- the rights to raise them. -/
def allToks : Finset (GSem nD τ sig × ℕ × Unit) := Finset.univ.map tokEmb

/-- The state at the launch. -/
def u₀ : UU := (initOf (Pipeline.cells cfgs cellOf_inj) (Pipeline.launchToks cfgs cellOf_inj), initOf allCells allToks)

/-- What device `c` has at first of its seventeen semaphores. -/
def fresh (c : Dev nD) : sProp 𝕄 :=
  iprop((bigSep Finset.univ fun j : Ix => roundState ER (plan m) (cellAt c j) 0)
    ∗ (bigSep Finset.univ fun j : Ix => atPos ER (cellAt c j) 0 ∅ 0)
    ∗ (bigSep Finset.univ fun j : Ix => reached ER (cellAt c j) 0)
    ∗ bigSep Finset.univ fun j : Ix => dutyTok ER (cellAt c j) 0 ())

/-- The state at the launch gives every device its share. -/
theorem fund_all : BI.own (ER (initOf allCells allToks)) ⊢ (|==> bigSep Finset.univ (fresh m) : sProp 𝕄) := by
  have hc (Φ : GSem nD τ sig → sProp 𝕄) : bigSep allCells Φ = bigSep Finset.univ fun c : Dev nD => bigSep Finset.univ fun j : Ix => Φ (cellAt c j) := by
    unfold allCells; rw [bigSep_map, bigSep_univ_prod]; rfl
  have ht : bigSep allToks (fun x => (dutyTok ER x.1 x.2.1 x.2.2 : sProp 𝕄))
      = bigSep Finset.univ fun c : Dev nD => bigSep Finset.univ fun j : Ix => dutyTok ER (cellAt c j) 0 () := by
    unfold allToks; rw [bigSep_map, bigSep_univ_prod]; rfl
  iintro H
  imod (Rounds.fund ER (plan m) allCells allToks) $$ H with ⟨Hst, Hr, Hat, Htok⟩
  imodintro
  ihave Hst := (Entails.of_eq (hc fun g => roundState ER (plan m) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold fresh; simp only [bigSep_sep']
  isplitl [Hst]; · iexact Hst
  isplitl [Hat]; · iexact Hat
  isplitl [Hr] <;> iassumption

omit [FloatOps F] in
/-- The barrier is the one semaphore that is not the kernel's own. -/
theorem barrier_only (c : Dev nD) : (unscopedSems0 c : sProp 𝕄) = semVal (barCell c) 0 := by
  unfold unscopedSems0; rw [bigSep_eq_bigSepL_of_eq [SemLoc.reg barS] (by decide) (by decide)]; rfl

omit [FloatOps F] in
/-- All semaphores of a device at zero are the barrier and the kernel's own. -/
theorem all_zero (c : Dev nD) :
    (bigSep Finset.univ fun j : Ix => semVal (cellAt c j) 0 : sProp 𝕄)
      = iprop(unscopedSems0 c ∗ Pipeline.ownSems0 (Ix := Unit) (Name := ℕ) (U := UU) (Lvl := ℕ) (Val := Elt F) (τ := τ) ownSem c) := by
  rw [barrier_only, bigSep_univ_sum, bigSep_univ_of_subsingleton ()]
  unfold Pipeline.ownSems0
  rfl

/-! ## The invariants of all devices -/

/-- One device's semaphores under their invariants. -/
theorem set_up (c : Dev nD) :
    iprop(Pipeline.ownSems0 (Ix := Unit) (Name := ℕ) (U := UU) (Lvl := ℕ) (Val := Elt F) (τ := τ) ownSem c ∗ unscopedSems0 c ∗ fresh m c)
      ⊢ |={Set.univ}=> iprop((bigSep Finset.univ fun j : Ix => iprop(∃ κ : ℕ, cellInv ER (plan m) κ (cellAt c j)))
          ∗ (bigSep Finset.univ fun j : Ix => atPos ER (cellAt c j) 0 ∅ 0)
          ∗ (bigSep Finset.univ fun j : Ix => reached ER (cellAt c j) 0)
          ∗ bigSep Finset.univ fun j : Ix => dutyTok ER (cellAt c j) 0 ()) := by
  have hinv : iprop((bigSep Finset.univ fun j : Ix => semVal (cellAt c j) 0) ∗ bigSep Finset.univ fun j : Ix => roundState ER (plan m) (cellAt c j) 0)
      ⊢ (|={Set.univ}=> bigSep Finset.univ fun j : Ix => iprop(∃ κ : ℕ, cellInv ER (plan m) κ (cellAt c j)) : sProp 𝕄) := by
    rw [← bigSep_sep']
    exact (bigSep_mono fun j _ => (Rounds.body_intro ER (plan m) (cellAt c j)).trans inv_alloc).trans (bigSep_fupd _ _)
  unfold fresh
  iintro ⟨Hos, Hus, Hst, Hrest⟩
  ihave Hv := (Entails.of_eq (all_zero (F := F) c).symm) $$ [Hos Hus]
  · isplitl [Hus] <;> iassumption
  imod hinv $$ [Hv Hst] with Hinv
  · isplitl [Hv] <;> iassumption
  imodintro
  isplitl [Hinv] <;> iassumption

omit [FloatOps F] in
/-- The right to raise a semaphore goes to the device that raises it. -/
theorem toks_dealt :
    (bigSep Finset.univ fun c : Dev nD => bigSep Finset.univ fun j : Ix => (dutyTok ER (cellAt c j) 0 () : sProp 𝕄))
      = bigSep Finset.univ fun c : Dev nD => bigSep Finset.univ fun j : Ix => (dutyTok ER (raisedBy c j) 0 () : sProp 𝕄) := by
  rw [bigSep_univ_comm, bigSep_univ_comm (fun (c : Dev nD) (j : Ix) => (dutyTok ER (raisedBy c j) 0 () : sProp 𝕄))]
  refine bigSep_congr fun j _ => ?_
  rcases j with _ | k | k
  · exact bigSep_univ_equiv swap fun c : Dev nD => (dutyTok ER (barCell c) 0 () : sProp 𝕄)
  · rfl
  · exact bigSep_univ_equiv swap fun c : Dev nD => (dutyTok ER (recvCell c k) 0 () : sProp 𝕄)

/-- What the devices have, dealt to where it is used. -/
theorem deal :
    (bigSep Finset.univ fun c : Dev nD => iprop((bigSep Finset.univ fun j : Ix => iprop(∃ κ : ℕ, cellInv ER (plan m) κ (cellAt c j)))
          ∗ (bigSep Finset.univ fun j : Ix => atPos ER (cellAt c j) 0 ∅ 0)
          ∗ (bigSep Finset.univ fun j : Ix => reached ER (cellAt c j) 0)
          ∗ bigSep Finset.univ fun j : Ix => dutyTok ER (cellAt c j) 0 ()) : sProp 𝕄)
      ⊢ bigSep Finset.univ (dealt m) := by
  have hp (Φ : Dev nD → Ix → sProp 𝕄) := bigSep_univ_prod fun cj : Dev nD × Ix => Φ cj.1 cj.2
  rw [bigSep_sep', bigSep_sep', bigSep_sep', toks_dealt,
    ← hp fun c j => iprop(∃ κ : ℕ, cellInv ER (plan m) κ (cellAt c j)), ← hp fun c j => reached ER (cellAt c j) 0]
  iintro ⟨HI, Hat, #HR, Htok⟩
  ihave HK := (BI.bigSep_exists_pi Finset.univ (fun (cj : Dev nD × Ix) (κ : ℕ) => (cellInv ER (plan m) κ (cellAt cj.1 cj.2) : sProp 𝕄))) $$ HI
  icases HK with ⟨%K, #HI⟩
  iapply (with_each (S := Finset.univ) (R := records m K) (Φ := fun c : Dev nD => alone c) (Ψ := dealt m) fun c _ => by
    unfold dealt; iintro H; iexists K; iexact H)
  isplitr
  · unfold records; isplitl; · iexact HI
    iexact HR
  · unfold alone
    rw [bigSep_sep']
    isplitl [Hat] <;> iassumption

/-- All devices' set-up: invariants made, rights dealt. -/
theorem set_up_all :
    (bigSep Finset.univ fun c => iprop(Pipeline.ownSems0 (Ix := Unit) (Name := ℕ) (U := UU) (Lvl := ℕ) (Val := Elt F) (τ := τ) ownSem c
        ∗ unscopedSems0 c ∗ fresh m c) : sProp 𝕄)
      ⊢ |={Set.univ}=> bigSep Finset.univ (dealt m) :=
  ((bigSep_mono fun c _ => set_up m c).trans (bigSep_fupd _ _)).trans (BI.fupd_mono (deal m))

/-! ## What is promised -/

omit [FloatOps F] in
/-- What all devices owe to one semaphore is what its device is promised, -/
theorem credit_at (c : Dev nD) (j : Ix) :
    tallyOn (cellAt c j) (launchCredit (Pipeline.owing due) 0 (cellAt c j)) = (tallyAt (cellAt c j) () (promised j) : CellTallies nD τ sig Unit) := by
  unfold tallyAt; refine congrArg _ (Finsupp.ext fun u => ?_); cases u
  rw [Pipeline.launchCredit_owing, Finsupp.single_eq_same, Finset.sum_congr rfl fun d _ => due_at d c j,
    Finset.sum_ite_eq' Finset.univ (peer c) fun _ => promised j, if_pos (Finset.mem_univ _)]

omit [FloatOps F] in
/-- so each device has the promises for its own semaphores. -/
theorem credits (c : Dev nD) :
    (Pipeline.launchCred due c : sProp 𝕄) ⊢ bigSep Finset.univ fun j : Ix => cred (tallyAt (cellAt c j) () (promised j)) := by
  unfold Pipeline.launchCred
  refine (bigSep_subset (Finset.subset_univ (Finset.univ.map ⟨semOf, semOf_injective⟩))).trans ?_
  rw [bigSep_map]
  exact Entails.of_eq (bigSep_congr fun j _ => congrArg cred (credit_at c j))

/-! ## The run -/

/-- At the launch a device has what the kernel starts with; -/
theorem begin_region (c : Dev nD) :
    iprop(Pipeline.unscopedRestP Pipeline.Prefetch.none cfg0.spec c (fun b => m ((c : Thread nD τ).loc b)) ∗ levAts L lv
        ∗ Pipeline.launchCred due c ∗ prngReg c (ρ c) ∗ dealt m c)
      ⊢ |={Set.univ}=> iprop(start m c ∗ emp) := by
  iintro ⟨-, Hlev, Hcr, -, Hd⟩
  ihave Hc := (credits (F := F) c) $$ Hcr
  imodintro
  unfold start
  isplitl
  · isplitl [Hd]; · iexact Hd
    isplitl [Hc] <;> iassumption
  · iempintro

/-- with the scratch buffer, what the body begins with. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before0 m c from rfl, scopedRest0_eq]
  unfold before0 scrAny
  iintro ⟨Hs, -, Hr⟩
  isplitl [Hs] <;> iassumption

/-- The body leaves all semaphores at zero and the scratch buffer. -/
theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = after0 c from rfl, scopedRest0_eq]
  unfold after0 scrAny
  rw [all_zero]
  iintro ⟨⟨Hu, Ho⟩, Hr⟩
  isplitl [Hu]; · iexact Hu
  isplitl [Ho] <;> iassumption

/-- None of the seventeen is a staging semaphore, -/
theorem stage_sem_ne : ∀ (w : Fin 3) (s : Fin (spec0 w).nbuf) (j : Ix), semOf j ≠ .dma ((spec0 w).sem s)
  | w, s, .inl () => fun h => nomatch h
  | w, s, .inr i => ownSem_facts.disj i w s

/-- so that waiting for the staging copies is safe. -/
theorem staging_waits (c : Dev nD) : (levAts L lv : sProp 𝕄) ⊢ Pipeline.cellsWaits cfgs (dats m) () 0 c :=
  Pipeline.cellsWaits_intro cfgs (dats m) () 0 c fun w s t =>
    wait_staging c _ (stage_sem_ne w s) _ (by
      rcases t with ⟨_ | _, ht⟩
      · exact Or.inl rfl
      · exact Or.inr rfl)

/-- What array `w` of device `c` holds at the end. -/
def finalArr (c : Dev nD) (w : Fin cfg0.W) : Buf (Elt F) ((cfg0.win w).arr.view.loc (c : Thread nD τ)) := (dats m 0 c).arrAt w cfg0.N

/-- Every device's arrays are as said. -/
def Ends : PUnit × MemSt nD τ sig (Elt F) → Prop := fun r =>
  ∀ c : Dev nD, ∀ w : Fin cfg0.W, r.2.mem ((cfg0.win w).arr.view.loc (c : Thread nD τ)) = finalArr m c w

set_option maxRecDepth 8000 in
/-- For any float values and any contents to begin with, with every semaphore at zero: every fair run of the program
    ends, with each device's arrays as said and every semaphore at zero. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := due) (howed₀ := fun _ => rfl) (howedN := fun _ => rfl)
    (L := L) (lv := lv) (hL := L_of_ne) (hwaits := staging_waits m)
    (G := fresh m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := set_up_all m)
    (hA := fun _ _ => rfl) (hpf := fun _ k => k.elim0)
    (X := start m) (Y := fun c => unscopedSems0 c) (Z := fun _ => iprop(emp))
    (hX := begin_region m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays are as they were, -/
theorem finalArr_dy (c : Dev nD) : finalArr m c (0 : Fin 3) = m ((c : Thread nD τ).loc main_arg0) :=
  (dats (F := F) m 0 c).arrAt_in (0 : Fin 3) rfl _
/-- `W`'s too, -/
theorem finalArr_W (c : Dev nD) : finalArr m c (1 : Fin 3) = m ((c : Thread nD τ).loc main_arg1) :=
  (dats (F := F) m 0 c).arrAt_in (1 : Fin 3) rfl _
/-- and the result's array holds the blocks computed. -/
theorem finalArr_out (c : Dev nD) : finalArr m c (2 : Fin 3) = outAt m c :=
  (dats (F := F) m 0 c).arrAt_eq_of_after_last (2 : Fin 3) t0_0 (by decide +kernel) (outAt m c) fun j => rfl

end Cert.ChunkedReduce

end
-- ==== Proof.Proof.Value.lean ====
/-
# What the result is

Read over the extended reals, an element of the result of device `c` is a row of `dy` against a row of `W`, over the
columns that `c` holds, and the same over the columns that its partner holds. The two halves make up all columns, so
that every device has the product of the whole `dy` with the whole `W` transposed; and that is what the reference
computes.
-/
module

public import proofs.«01_k».proof.Proof.Proof.Run
public import proofs.«01_k».proof.Proof.Gen.ReferenceIdeal.Run
public import Idealize.ShloMosaic.Lib.MatmulPlain
public import Idealize.ShloMosaic.Lib.StackMember
public import Idealize.ShloMosaic.Lib.Pointwise
public import Idealize.ShloMosaic.Lib.Layout

@[expose] public section

noncomputable section

namespace Cert.ChunkedReduce

open Cert.KernelIdeal Cert.KernelIdeal.Gen
open Idealize.ShloMosaic hiding ix2 eq_ix2
open Idealize.ShloMosaic.TcCoe Idealize.ShloMosaic.ValueIdx
open Idealize.SL.Sem
open scoped BigOperators

variable (m : (ℓ : Loc nD τ sig) → Buf (Elt Ideal) ℓ)

/-- `dy` and `W` as device `c` holds them. -/
abbrev dyOf (c : Dev nD) : FVec Ideal S1024x4096 .bf16 := m ((c : Thread nD τ).loc main_arg0)
/-- `W` as device `c` holds it. -/
abbrev WOf (c : Dev nD) : FVec Ideal S1024x4096 .bf16 := m ((c : Thread nD τ).loc main_arg1)

/-- Row `r` of `x` against row `l` of `w`, -/
def rows {n : ℕ} (x w : FVec Ideal ⟨2, ![1024, n]⟩ .bf16) (r l : Fin 1024) : EReal :=
  ∑ j : Fin n, x (ix2 r j) * w (ix2 l j)
/-- and all of these: `x` times `w` transposed. -/
def allRows {n : ℕ} (x w : FVec Ideal ⟨2, ![1024, n]⟩ .bf16) (i : S1024x1024.Idx) : EReal := rows x w (i 0) (i 1)

/-! ## One device's products -/

/-- Row `r` of block `k` is a row of the whole. -/
def rowOf (k : Fin 8) (r : Fin 128) : Fin 1024 := ⟨128 * k.val + r.val, by omega⟩

/-- A block of `dy`'s rows, at an element; -/
theorem xAt_apply (c : Dev nD) (k : Fin 8) (r : Fin 128) (j : Fin 4096) :
    xAt m c k (ix2 r j) = dyOf m c (ix2 (rowOf k r) j) := by
  refine congrArg (dyOf m c) ?_
  funext a
  refine Fin.ext ?_
  match a with
  | ⟨0, _⟩ =>
    show 0 * 1024 + 1 * (128 * k.val + 1 * r.val) = 128 * k.val + r.val
    omega
  | ⟨1, _⟩ =>
    show 0 * 4096 + 1 * (0 + 1 * j.val) = j.val
    omega

/-- `W`, at an element. -/
theorem wAt_apply (c : Dev nD) (l : Fin 1024) (j : Fin 4096) : wAt m c (ix2 l j) = WOf m c (ix2 l j) := by
  unfold wAt k0_pay1
  rw [shapeCast_id]
  refine congrArg (WOf m c) ?_
  funext a
  refine Fin.ext ?_
  match a with
  | ⟨0, _⟩ =>
    show 0 * 1024 + 1 * (0 + 1 * l.val) = l.val
    omega
  | ⟨1, _⟩ =>
    show 0 * 4096 + 1 * (0 + 1 * j.val) = j.val
    omega

/-- The kernel's product takes both operands by rows. -/
theorem prod_dims : dot_S128x4096_S1024x4096_S128x1024_1_1_0_0_n_n = DotDims.transposedRhs 128 4096 1024 := rfl

/-- The product of device `c` at block `k`. -/
theorem prodAt_apply (c : Dev nD) (k : Fin 8) (r : Fin 128) (l : Fin 1024) :
    prodAt m c k (ix2 r l) = rows (dyOf m c) (WOf m c) (rowOf k r) l := by
  unfold prodAt prod k0_pay4
  rw [shapeCast_id]
  refine (congrFun (congrArg (fun d => FloatOps.matmul (F := Ideal) d none (xAt m c k) (wAt m c) (constant S128x1024 .f32 0x00000000#32)) prod_dims) _).trans ?_
  rw [Ideal.matmul_transposedRhs_apply]
  show Ideal.ofBits .f32 0x00000000#32 + _ = _
  rw [Ideal.ofBits_zero_f32, zero_add]
  exact Finset.sum_congr rfl fun j _ => by rw [xAt_apply, wAt_apply]

/-- A block of the result is the sum of the two partners' products: narrowing and widening change nothing. -/
theorem finalAt_eq (c : Dev nD) (k : Fin 8) : finalAt m c k = fun y => (prodAt m c k y + prodAt m (peer c) k y : EReal) := by
  unfold finalAt sentAt total narrow k0_pay20 k0_pay5
  rw [shapeCast_id, shapeCast_comp, shapeCast_id]
  rfl

/-- The result of device `c`, at an element: its own half of the sum and its partner's. -/
theorem outAt_apply (c : Dev nD) (r l : Fin 1024) :
    outAt m c (ix2 r l) = (rows (dyOf m c) (WOf m c) r l + rows (dyOf m (peer c)) (WOf m (peer c)) r l : EReal) := by
  have hk : r.val / 128 < 8 := by omega
  have hr : rowOf ⟨r.val / 128, hk⟩ ⟨r.val % 128, Nat.mod_lt _ (by decide)⟩ = r :=
    Fin.ext (Nat.div_add_mod r.val 128)
  have hy : rowIn (ix2 r l) = ix2 (⟨r.val % 128, Nat.mod_lt _ (by decide)⟩ : Fin 128) l := eq_ix2 _
  unfold outAt glue
  rw [finalAt_eq, hy]
  show (prodAt m c ⟨r.val / 128, hk⟩ _ + prodAt m (peer c) ⟨r.val / 128, hk⟩ _ : EReal) = _
  rw [prodAt_apply, prodAt_apply, hr]

/-! ## The two halves -/

/-- What device `c` holds of a whole array. -/
abbrev held (c : Dev nD) (X : FVec Ideal ⟨2, ![1024, 8192]⟩ .bf16) : FVec Ideal S1024x4096 .bf16 :=
  Layout.blockN ⟨2, ![1024, 4096]⟩ ⟨2, ![1024, 8192]⟩ (Layout.meshBlock [2, 2, 4] ![[], [0]] c) X

/-- The lower or the upper half of the columns. -/
theorem held_apply (c : Dev nD) (X : FVec Ideal ⟨2, ![1024, 8192]⟩ .bf16) (r : Fin 1024) (j : Fin 4096) :
    held c X (ix2 r j) = X (ix2 r (if c.val < 8 then Fin.castAdd 4096 j else Fin.natAdd 4096 j)) := by
  refine congrArg X ?_
  funext a
  refine Fin.ext ?_
  match a with
  | ⟨0, _⟩ =>
    show 0 * 1024 + r.val = r.val
    omega
  | ⟨1, _⟩ =>
    show (c.val / 8 % 2 * 1 + 0) * 4096 + j.val = (if c.val < 8 then Fin.castAdd 4096 j else Fin.natAdd 4096 j).val
    have : c.val < 16 := c.isLt
    split
    · show _ = j.val
      omega
    · show _ = 4096 + j.val
      omega

/-- The sum over all columns is the sums over the two halves. -/
theorem rows_halves (X Y : FVec Ideal ⟨2, ![1024, 8192]⟩ .bf16) (r l : Fin 1024) :
    rows X Y r l = ((∑ j : Fin 4096, X (ix2 r (Fin.castAdd 4096 j)) * Y (ix2 l (Fin.castAdd 4096 j)))
      + ∑ j : Fin 4096, X (ix2 r (Fin.natAdd 4096 j)) * Y (ix2 l (Fin.natAdd 4096 j)) : EReal) :=
  Fin.sum_univ_add (a := 4096) (b := 4096) fun j : Fin (4096 + 4096) => (X (ix2 r j) * Y (ix2 l j) : EReal)

/-- Every device has the rows of the whole `dy` against the rows of the whole `W`. -/
theorem outAt_whole (X Y : FVec Ideal ⟨2, ![1024, 8192]⟩ .bf16) (hX : ∀ c, dyOf m c = held c X) (hY : ∀ c, WOf m c = held c Y)
    (c : Dev nD) : outAt m c = allRows X Y := by
  have key (r l : Fin 1024) : outAt m c (ix2 r l) = rows X Y r l := by
    rw [outAt_apply, hX, hX, hY, hY, rows_halves]
    unfold rows
    simp only [held_apply]
    by_cases h : c.val < 8
    · have hp : ¬ (peer c).val < 8 := by show ¬ (c.val + 8) % 16 < 8; omega
      simp only [if_pos h, if_neg hp]
    · have hp : (peer c).val < 8 := by
        have : c.val < 16 := c.isLt
        show (c.val + 8) % 16 < 8
        omega
      simp only [if_neg h, if_pos hp]
      exact add_comm (G := EReal) _ _
  funext i
  exact (congrArg (outAt m c) (eq_ix2 i)).trans (key (i 0) (i 1))

/-! ## The reference -/

/-- The reference's product is the plain one. -/
theorem ref_dims : Cert.ReferenceIdeal.dot_S1024x8192_S8192x1024_S1024x1024_1_0_0_1_n_n = DotDims.plain 1024 8192 1024 := rfl

/-- Narrowing and widening change nothing. -/
theorem there_and_back {s : Shape} (z : FVec Ideal s .f32) (h h' : FTy.bits .bf16 < FTy.bits .f32) :
    extf .f32 (truncf .bf16 z h) h' = z := rfl

/-- The transposed matrix, at an element. -/
theorem transposed (Y : FVec Ideal ⟨2, ![1024, 8192]⟩ .bf16) (l : Fin 1024) (j : Fin 8192) :
    transpose Cert.ReferenceIdeal.S8192x1024 [1, 0] Y Cert.ReferenceIdeal.Gen.transposes_S1024x8192_S8192x1024_1_0 (ix2 j l)
      = Y (ix2 l j) := by
  refine congrArg Y ?_
  funext a
  refine Fin.ext ?_
  match a with
  | ⟨0, _⟩ => rfl
  | ⟨1, _⟩ => rfl

/-- The product with the transposed matrix, by rows of the matrix itself. -/
theorem product_transposed (X Y : FVec Ideal ⟨2, ![1024, 8192]⟩ .bf16) (r l : Fin 1024) :
    Host.dotGeneral (F := Ideal) (DotDims.plain 1024 8192 1024) none X
      (transpose Cert.ReferenceIdeal.S8192x1024 [1, 0] Y Cert.ReferenceIdeal.Gen.transposes_S1024x8192_S8192x1024_1_0) (ix2 r l)
      = rows X Y r l :=
  (StackMember.dotGeneral_plain_apply (m := 1024) (k := 8192) (n := 1024) none X _ r l).trans
    (Finset.sum_congr rfl fun j _ => congrArg (fun y : EReal => (X (ix2 r j) * y : EReal)) (transposed Y l j))

/-- The reference's result: its two changes of format change nothing. -/
theorem reference_eq (X Y : FVec Ideal ⟨2, ![1024, 8192]⟩ .bf16) :
    extf .f32 (truncf .bf16 (Host.dotGeneral (F := Ideal) Cert.ReferenceIdeal.dot_S1024x8192_S8192x1024_S1024x1024_1_0_0_1_n_n none X
      (transpose Cert.ReferenceIdeal.S8192x1024 [1, 0] Y Cert.ReferenceIdeal.Gen.transposes_S1024x8192_S8192x1024_1_0))
        Cert.ReferenceIdeal.Gen.bitsLt_bf16_f32) Cert.ReferenceIdeal.Gen.bitsLt_bf16_f32
      = allRows X Y := by
  rw [there_and_back, ref_dims]
  funext i
  exact (congrArg _ (eq_ix2 i)).trans (product_transposed X Y (i 0) (i 1))

end Cert.ChunkedReduce

end
-- ==== Proof.Proof.Claims.lean ====
/-
# The claims

The frame of the kernel, read over the machine's floats and over the extended reals, is the one run, which was proved
for any float values. With the arrays known at its end, it also says what the result is.
-/
module

public import proofs.«01_k».proof.Defs
public import proofs.«01_k».proof.Proof.Gen.Kernel
public import proofs.«01_k».proof.Proof.Gen.Kernel.Skeleton
public import proofs.«01_k».proof.Proof.Proof.Value
public import Idealize.ShloMosaic.Lib.Quiescent

@[expose] public section

noncomputable section

namespace Cert.ChunkedReduce

open Idealize.ShloMosaic Idealize.ShloMosaic.TcCoe Idealize.SL.Sem

/-- What the operands' arrays hold at the end: what they held. -/
theorem operands_kept {F : FTy → Type} [FloatOps F]
    (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : Ends m r)
    (c : Dev Cert.KernelIdeal.nD) :
    r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
        = m ((c.tc : Thread Cert.KernelIdeal.nD Cert.KernelIdeal.τ).loc Cert.KernelIdeal.main_arg1) :=
  ⟨(h c (0 : Fin 3)).trans (finalArr_dy m c), (h c (1 : Fin 3)).trans (finalArr_W m c)⟩

/-- The run, read at the operands and the semaphores. -/
theorem main_kept {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run (Cert.KernelIdeal.defs (F := F)) _ _).mono (fun r h => ⟨fun c => operands_kept m r h.1 c, h.2⟩) (run_main m ρ)

set_option maxRecDepth 8000 in
/-- Nothing was rewritten for the reading over the extended reals: the kernel's functions are the same, -/
theorem same_bodies {F : FTy → Type} [FloatOps F] : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (_, _) => rfl
  | ⟨_ + 1, h⟩, _ => exact absurd h (Nat.not_lt.2 (Nat.le_add_left _ _))
/-- and so are all functions of the program. -/
theorem same_table {F : FTy → Type} [FloatOps F] : Cert.Kernel.defs (F := F) = Cert.KernelIdeal.defs (F := F) :=
  congrArg (Pipeline.defs Cert.KernelIdeal.pcfgs) same_bodies

/-- The frame over the machine's floats. -/
theorem frame_kernel : Cert.quiescent_Kernel := by
  intro m ρ _
  rw [same_table]
  exact main_kept (F := Bits) m ρ

/-- The frame over the extended reals. -/
theorem frame_ideal : Cert.quiescent_KernelIdeal := fun m ρ _ => main_kept (F := Ideal) m ρ

/-- The reference's frame: it has no semaphore. -/
theorem frame_reference : Cert.quiescent_ReferenceIdeal := fun m ρ _ =>
  (θ_run (Cert.ReferenceIdeal.defs (F := Ideal)) _ _).mono
    (fun r h => ⟨fun c => (h c).2, sem_eq_zero_of_no_sems rfl r.2⟩) (Cert.ReferenceIdeal.Value.run (F := Ideal) m ρ)

/-- The result on every device, with the devices' operands parts of whole arrays. -/
theorem result_whole (m : (ℓ : Loc Cert.KernelIdeal.nD Cert.KernelIdeal.τ Cert.KernelIdeal.sig) → Buf (Elt Ideal) ℓ)
    (X Y : FVec Ideal ⟨2, ![1024, 8192]⟩ .bf16) (hX : ∀ c, dyOf m c = held c X) (hY : ∀ c, WOf m c = held c Y)
    (r : PUnit × MemSt Cert.KernelIdeal.nD Cert.KernelIdeal.τ Cert.KernelIdeal.sig (Elt Ideal)) (h : Ends m r)
    (c : Dev Cert.KernelIdeal.nD) :
    r.2.mem ((c.tc : Thread Cert.KernelIdeal.nD Cert.KernelIdeal.τ).loc Cert.KernelIdeal.main_v1) = allRows X Y :=
  (h c (2 : Fin 3)).trans ((finalArr_out m c).trans (outAt_whole m X Y hX hY c))

/-- The kernel's result on every device is the reference's. -/
theorem results_agree : Cert.algebraic_KernelIdeal_ReferenceIdeal := by
  intro m g m' g' _ hm
  have hk := run_main (F := Ideal) m g
  have hr := Cert.ReferenceIdeal.Value.run (F := Ideal) m' g'
  refine ⟨_, (θ_run (Cert.KernelIdeal.defs (F := Ideal)) _ _).mono (fun r h c => ⟨result_whole m _ _ (fun c => (hm c).1) (fun c => (hm c).2) r h.1 c,
      operands_kept m r h.1 c⟩) hk, (θ_run (Cert.ReferenceIdeal.defs (F := Ideal)) _ _).mono (fun r h => ⟨(h 0).1.trans (reference_eq _ _), (h 0).2⟩) hr⟩

end Cert.ChunkedReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Proof.Claims
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  Cert.ChunkedReduce.frame_kernel, Cert.ChunkedReduce.frame_ideal, Cert.ChunkedReduce.frame_reference, trivial,
  Cert.ChunkedReduce.results_agree⟩

end Cert.Proof

end
